-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_above [hPre_weights_above : Cert.Pre_weights_above.Facts] (m : (ℓ : Loc Cert.KernelIdeal.nD Cert.KernelIdeal.τ Cert.KernelIdeal.sig) → Buf (Elt Ideal) ℓ) : Prop :=
  ∀ c : Dev Cert.KernelIdeal.nD,
    (Cert.Pre_weights_above.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_above [hPre_weights_above : Cert.Pre_weights_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_above.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_weights_above [hKernelIdeal : Cert.KernelIdeal.Facts] [hPre_weights_above : Cert.Pre_weights_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_above m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_weights_above [hReferenceIdeal : Cert.ReferenceIdeal.Facts] [hPre_weights_above : Cert.Pre_weights_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_weights_above [hKernelIdeal : Cert.KernelIdeal.Facts] [hReferenceIdeal : Cert.ReferenceIdeal.Facts] [hPre_weights_above : Cert.Pre_weights_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_weights_above : Cert.Pre_weights_above.Facts),
    quiescent_Kernel (hKernel := hKernel)
    ∧ quiescent_KernelIdeal (hKernelIdeal := hKernelIdeal)
    ∧ quiescent_KernelIdeal_pre_weights_above (hKernelIdeal := hKernelIdeal) (hPre_weights_above := hPre_weights_above)
    ∧ quiescent_ReferenceIdeal (hReferenceIdeal := hReferenceIdeal)
    ∧ quiescent_ReferenceIdeal_pre_weights_above (hReferenceIdeal := hReferenceIdeal) (hPre_weights_above := hPre_weights_above)
    ∧ preserves_Kernel_KernelIdeal
    ∧ algebraic_KernelIdeal_ReferenceIdeal_pre_weights_above (hKernelIdeal := hKernelIdeal) (hReferenceIdeal := hReferenceIdeal) (hPre_weights_above := hPre_weights_above)
-- ==== Pre_weights_above.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : FVec F S_ .f32) (main_arg2 : FVec F S_ .f32) : IVec S_ 1 :=
  let main_cst : FVec F S_ .f32 := constant S_ .f32 0xBF800000#32
  let main_v0 : FVec F S128x100000 .f32 := broadcastInDim S128x100000 ![] bcast_S_S128x100000 main_cst
  let main_v1 : IVec S128x100000 1 := cmpf .oge main_arg0 main_v0
  let main_c : IVec S_ 1 := constantI S_ 1 1#1
  let main_v2 : IVec S_ 1 := (fun x v => Host.reduce IntOp.andi x v reducesTo_S128x100000_S_d0_1 h_S_) main_v1 main_c
  main_v2
-- ==== Kernel.lean ====
abbrev S128x100000 : Shape := ⟨2, ![128, 100000]⟩
abbrev S_ : Shape := ⟨0, ![]⟩
abbrev S100000x128 : Shape := ⟨2, ![100000, 128]⟩
abbrev S1x128 : Shape := ⟨2, ![1, 128]⟩
abbrev S10000x128 : Shape := ⟨2, ![10000, 128]⟩
abbrev S200x128 : Shape := ⟨2, ![200, 128]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S128x100000, .f32⟩
  | .hbm, ⟨1, _⟩ => ⟨S_, .f32⟩
  | .hbm, ⟨2, _⟩ => ⟨S_, .f32⟩
  | .hbm, ⟨3, _⟩ => ⟨S100000x128, .f32⟩
  | .hbm, ⟨4, _⟩ => ⟨S100000x128, .f32⟩
  | .hbm, ⟨5, _⟩ => ⟨S1x128, .i32⟩
  | .hbm, ⟨6, _⟩ => ⟨S128x1, .i32⟩
  | .hbm, ⟨7, _⟩ => ⟨S128x100000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S1x128, .i32⟩
  | .local _ .vmem, ⟨5, _⟩ => ⟨S200x128, .f32⟩
  | .local _ .vmem, ⟨6, _⟩ => ⟨S200x128, .i32⟩
  | .local _ .vmem, ⟨7, _⟩ => ⟨S200x128, .f32⟩
  | .local _ .vmem, ⟨8, _⟩ => ⟨S1x128, .i32⟩
  | .local _ .vmem, ⟨9, _⟩ => ⟨S1x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 10], ![false, false]⟩

def k0_cond4 (i : grid0.Coords) : BitVec 1 :=
  let arg0 : BitVec 32 := BitVec.ofNat 32 (i 0).val
  let c1_i32_7 : BitVec 32 := 1#32
  let v23 : BitVec 1 := Scalar.cmpi .eq arg0 c1_i32_7
  let v24 : BitVec 32 := Scalar.extui v23
  let c0_i32_8 : BitVec 32 := 0#32
  let v25 : BitVec 1 := Scalar.cmpi .ne v24 c0_i32_8
  v25

def k0_cond3 (i : grid0.Coords) : BitVec 1 :=
  let arg0 : BitVec 32 := BitVec.ofNat 32 (i 0).val
  let c1_i32 : BitVec 32 := 1#32
  let v18 : BitVec 1 := Scalar.cmpi .eq arg0 c1_i32
  let arg1 : BitVec 32 := BitVec.ofNat 32 (i 1).val
  let c0_i32_5 : BitVec 32 := 0#32
  let v19 : BitVec 1 := Scalar.cmpi .eq arg1 c0_i32_5
  let v20 : BitVec 1 := Scalar.andi v18 v19
  let v21 : BitVec 32 := Scalar.extui v20
  let c0_i32_6 : BitVec 32 := 0#32
  let v22 : BitVec 1 := Scalar.cmpi .ne v21 c0_i32_6
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128 : Shape := ⟨1, ![128]⟩
abbrev S128x1 : Shape := ⟨2, ![128, 1]⟩
abbrev S100000 : Shape := ⟨1, ![100000]⟩
abbrev S1x100000 : Shape := ⟨2, ![1, 100000]⟩

abbrev nBuf : Space → Nat
  | .hbm => 314
  | .vmem => 0
  | .smem => 0
  | _ => 0

abbrev hbmTy0_0 (i : Nat) : BufTy := match i % 128 with
  | 0 => ⟨S128x100000, .f32⟩
  | 1 => ⟨S_, .f32⟩
  | 2 => ⟨S_, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S128x100000, .f32⟩
  | 15 => ⟨S128x100000, .f32⟩
  | 16 => ⟨S128x100000, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S_, .f32⟩
  | 13 => ⟨S128x100000, .f32⟩
  | 14 => ⟨S128x100000, .f32⟩
  | 15 => ⟨S_, .f32⟩
  | 16 => ⟨S128x100000, .f32⟩
  | 17 => ⟨S128x100000, .f32⟩
  | 18 => ⟨S_, .f32⟩
  | 19 => ⟨S128x100000, .f32⟩
  | 20 => ⟨S128x100000, .f32⟩
  | 21 => ⟨S128x100000, .f32⟩
  | 22 => ⟨S128x100000, .f32⟩
  | 23 => ⟨S128x100000, .f32⟩
  | 24 => ⟨S128x100000, .f32⟩
  | 25 => ⟨S128x100000, .f32⟩
  | 26 => ⟨S128x100000, .i32⟩
  | 27 => ⟨S_, .f32⟩
  | 28 => ⟨S_, .i32⟩
  | 29 => ⟨S128, .f32⟩
  | 30 => ⟨S128, .i32⟩
  | 31 => ⟨S128x1, .i32⟩
  | 32 => ⟨S100000, .i32⟩
  | 33 => ⟨S1x100000, .i32⟩
  | 34 => ⟨S128x100000, .i32⟩
  | 35 => ⟨S128x100000, .i32⟩
  | 36 => ⟨S128x100000, .i1⟩
  | 37 => ⟨S128x100000, .f32⟩
  | 38 => ⟨S_, .f32⟩
  | 39 => ⟨S128x100000, .f32⟩
  | 40 => ⟨S128x100000, .f32⟩
  | 41 => ⟨S_, .f32⟩
  | 42 => ⟨S128x100000, .f32⟩
  | 43 => ⟨S128x100000, .f32⟩
  | 44 => ⟨S128x100000, .f32⟩
  | 45 => ⟨S_, .f32⟩
  | 46 => ⟨S128x100000, .f32⟩
  | 47 => ⟨S128x100000, .f32⟩
  | 48 => ⟨S_, .f32⟩
  | 49 => ⟨S128x100000, .f32⟩
  | 50 => ⟨S128x100000, .f32⟩
  | 51 => ⟨S128x100000, .f32⟩
  | 52 => ⟨S128x100000, .f32⟩
  | 53 => ⟨S_, .f32⟩
  | 54 => ⟨S128x100000, .f32⟩
  | 55 => ⟨S128x100000, .f32⟩
  | 56 => ⟨S128x100000, .f32⟩
  | 57 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_c_0 : Ref sig .tc := ⟨.hbm, 43, rfl⟩
abbrev main_call0_v7 : Ref sig .tc := ⟨.hbm, 44, rfl⟩
abbrev main_call0_v8 : Ref sig .tc := ⟨.hbm, 45, rfl⟩
abbrev main_call0_c_1 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_c_2 : Ref sig .tc := ⟨.hbm, 52, rfl⟩
abbrev main_call0_v14 : Ref sig .tc := ⟨.hbm, 53, rfl⟩
abbrev main_call0_v15 : Ref sig .tc := ⟨.hbm, 54, rfl⟩
abbrev main_call0_c_3 : Ref sig .tc := ⟨.hbm, 55, rfl⟩
abbrev main_call0_v16 : Ref sig .tc := ⟨.hbm, 56, rfl⟩
abbrev main_call0_v17 : Ref sig .tc := ⟨.hbm, 57, rfl⟩
abbrev main_call0_v18 : Ref sig .tc := ⟨.hbm, 58, rfl⟩
abbrev main_call0_v19 : Ref sig .tc := ⟨.hbm, 59, rfl⟩
abbrev main_call0_v20 : Ref sig .tc := ⟨.hbm, 60, rfl⟩
abbrev main_call0_c_4 : Ref sig .tc := ⟨.hbm, 61, rfl⟩
abbrev main_call0_v21 : Ref sig .tc := ⟨.hbm, 62, rfl⟩
abbrev main_call0_v22 : Ref sig .tc := ⟨.hbm, 63, rfl⟩
abbrev main_call0_c_5 : Ref sig .tc := ⟨.hbm, 64, rfl⟩
abbrev main_call0_v23 : Ref sig .tc := ⟨.hbm, 65, rfl⟩
abbrev main_call0_v24 : Ref sig .tc := ⟨.hbm, 66, rfl⟩
abbrev main_call0_v25 : Ref sig .tc := ⟨.hbm, 67, rfl⟩
abbrev main_call0_v26 : Ref sig .tc := ⟨.hbm, 68, rfl⟩
abbrev main_call0_v27 : Ref sig .tc := ⟨.hbm, 69, rfl⟩
abbrev main_call0_c_6 : Ref sig .tc := ⟨.hbm, 70, rfl⟩
abbrev main_call0_v28 : Ref sig .tc := ⟨.hbm, 71, rfl⟩
abbrev main_call0_v29 : Ref sig .tc := ⟨.hbm, 72, rfl⟩
abbrev main_call0_c_7 : Ref sig .tc := ⟨.hbm, 73, rfl⟩
abbrev main_call0_v30 : Ref sig .tc := ⟨.hbm, 74, rfl⟩
abbrev main_call0_v31 : Ref sig .tc := ⟨.hbm, 75, rfl⟩
abbrev main_call0_v32 : Ref sig .tc := ⟨.hbm, 76, rfl⟩
abbrev main_call0_v33 : Ref sig .tc := ⟨.hbm, 77, rfl⟩
abbrev main_call0_v34 : Ref sig .tc := ⟨.hbm, 78, rfl⟩
abbrev main_call0_v35 : Ref sig .tc := ⟨.hbm, 79, rfl⟩
abbrev main_call0_v36 : Ref sig .tc := ⟨.hbm, 80, rfl⟩
abbrev main_call0_v37 : Ref sig .tc := ⟨.hbm, 81, rfl⟩
abbrev main_call0_c_8 : Ref sig .tc := ⟨.hbm, 82, rfl⟩
abbrev main_call0_v38 : Ref sig .tc := ⟨.hbm, 83, rfl⟩
abbrev main_call0_v39 : Ref sig .tc := ⟨.hbm, 84, rfl⟩
abbrev main_call0_v40 : Ref sig .tc := ⟨.hbm, 85, rfl⟩
abbrev main_call0_c_9 : Ref sig .tc := ⟨.hbm, 86, rfl⟩
abbrev main_call0_v41 : Ref sig .tc := ⟨.hbm, 87, rfl⟩
abbrev main_call0_v42 : Ref sig .tc := ⟨.hbm, 88, rfl⟩
abbrev main_call0_c_10 : Ref sig .tc := ⟨.hbm, 89, rfl⟩
abbrev main_call0_v43 : Ref sig .tc := ⟨.hbm, 90, rfl⟩
abbrev main_call0_v44 : Ref sig .tc := ⟨.hbm, 91, rfl⟩
abbrev main_call0_v45 : Ref sig .tc := ⟨.hbm, 92, rfl⟩
abbrev main_call0_v46 : Ref sig .tc := ⟨.hbm, 93, rfl⟩
abbrev main_call0_v47 : Ref sig .tc := ⟨.hbm, 94, rfl⟩
abbrev main_call0_c_11 : Ref sig .tc := ⟨.hbm, 95, rfl⟩
abbrev main_call0_v48 : Ref sig .tc := ⟨.hbm, 96, rfl⟩
abbrev main_call0_v49 : Ref sig .tc := ⟨.hbm, 97, rfl⟩
abbrev main_call0_c_12 : Ref sig .tc := ⟨.hbm, 98, rfl⟩
abbrev main_call0_v50 : Ref sig .tc := ⟨.hbm, 99, rfl⟩
abbrev main_call0_v51 : Ref sig .tc := ⟨.hbm, 100, rfl⟩
abbrev main_call0_v52 : Ref sig .tc := ⟨.hbm, 101, rfl⟩
abbrev main_call0_v53 : Ref sig .tc := ⟨.hbm, 102, rfl⟩
abbrev main_call0_v54 : Ref sig .tc := ⟨.hbm, 103, rfl⟩
abbrev main_call0_c_13 : Ref sig .tc := ⟨.hbm, 104, rfl⟩
abbrev main_call0_v55 : Ref sig .tc := ⟨.hbm, 105, rfl⟩
abbrev main_call0_v56 : Ref sig .tc := ⟨.hbm, 106, rfl⟩
abbrev main_call0_c_14 : Ref sig .tc := ⟨.hbm, 107, rfl⟩
abbrev main_call0_v57 : Ref sig .tc := ⟨.hbm, 108, rfl⟩
abbrev main_call0_v58 : Ref sig .tc := ⟨.hbm, 109, rfl⟩
abbrev main_call0_v59 : Ref sig .tc := ⟨.hbm, 110, rfl⟩
abbrev main_call0_v60 : Ref sig .tc := ⟨.hbm, 111, rfl⟩
abbrev main_call0_v61 : Ref sig .tc := ⟨.hbm, 112, rfl⟩
abbrev main_call0_c_15 : Ref sig .tc := ⟨.hbm, 113, rfl⟩
abbrev main_call0_v62 : Ref sig .tc := ⟨.hbm, 114, rfl⟩
abbrev main_call0_v63 : Ref sig .tc := ⟨.hbm, 115, rfl⟩
abbrev main_call0_c_16 : Ref sig .tc := ⟨.hbm, 116, rfl⟩
abbrev main_call0_v64 : Ref sig .tc := ⟨.hbm, 117, rfl⟩
abbrev main_call0_v65 : Ref sig .tc := ⟨.hbm, 118, rfl⟩
abbrev main_call0_v66 : Ref sig .tc := ⟨.hbm, 119, rfl⟩
abbrev main_call0_v67 : Ref sig .tc := ⟨.hbm, 120, rfl⟩
abbrev main_call0_v68 : Ref sig .tc := ⟨.hbm, 121, rfl⟩
abbrev main_call0_v69 : Ref sig .tc := ⟨.hbm, 122, rfl⟩
abbrev main_call0_v70 : Ref sig .tc := ⟨.hbm, 123, rfl⟩
abbrev main_call0_v71 : Ref sig .tc := ⟨.hbm, 124, rfl⟩
abbrev main_call0_c_17 : Ref sig .tc := ⟨.hbm, 125, rfl⟩
abbrev main_call0_v72 : Ref sig .tc := ⟨.hbm, 126, rfl⟩
abbrev main_call0_v73 : Ref sig .tc := ⟨.hbm, 127, rfl⟩
abbrev main_call0_v74 : Ref sig .tc := ⟨.hbm, 128, rfl⟩
abbrev main_call0_c_18 : Ref sig .tc := ⟨.hbm, 129, rfl⟩
abbrev main_call0_v75 : Ref sig .tc := ⟨.hbm, 130, rfl⟩
abbrev main_call0_v76 : Ref sig .tc := ⟨.hbm, 131, rfl⟩
abbrev main_call0_c_19 : Ref sig .tc := ⟨.hbm, 132, rfl⟩
abbrev main_call0_v77 : Ref sig .tc := ⟨.hbm, 133, rfl⟩
abbrev main_call0_v78 : Ref sig .tc := ⟨.hbm, 134, rfl⟩
abbrev main_call0_v79 : Ref sig .tc := ⟨.hbm, 135, rfl⟩
abbrev main_call0_v80 : Ref sig .tc := ⟨.hbm, 136, rfl⟩
abbrev main_call0_v81 : Ref sig .tc := ⟨.hbm, 137, rfl⟩
abbrev main_call0_c_20 : Ref sig .tc := ⟨.hbm, 138, rfl⟩
abbrev main_call0_v82 : Ref sig .tc := ⟨.hbm, 139, rfl⟩
abbrev main_call0_v83 : Ref sig .tc := ⟨.hbm, 140, rfl⟩
abbrev main_call0_c_21 : Ref sig .tc := ⟨.hbm, 141, rfl⟩
abbrev main_call0_v84 : Ref sig .tc := ⟨.hbm, 142, rfl⟩
abbrev main_call0_v85 : Ref sig .tc := ⟨.hbm, 143, rfl⟩
abbrev main_call0_v86 : Ref sig .tc := ⟨.hbm, 144, rfl⟩
abbrev main_call0_v87 : Ref sig .tc := ⟨.hbm, 145, rfl⟩
abbrev main_call0_v88 : Ref sig .tc := ⟨.hbm, 146, rfl⟩
abbrev main_call0_c_22 : Ref sig .tc := ⟨.hbm, 147, rfl⟩
abbrev main_call0_v89 : Ref sig .tc := ⟨.hbm, 148, rfl⟩
abbrev main_call0_v90 : Ref sig .tc := ⟨.hbm, 149, rfl⟩
abbrev main_call0_c_23 : Ref sig .tc := ⟨.hbm, 150, rfl⟩
abbrev main_call0_v91 : Ref sig .tc := ⟨.hbm, 151, rfl⟩
abbrev main_call0_v92 : Ref sig .tc := ⟨.hbm, 152, rfl⟩
abbrev main_call0_v93 : Ref sig .tc := ⟨.hbm, 153, rfl⟩
abbrev main_call0_v94 : Ref sig .tc := ⟨.hbm, 154, rfl⟩
abbrev main_call0_v95 : Ref sig .tc := ⟨.hbm, 155, rfl⟩
abbrev main_call0_c_24 : Ref sig .tc := ⟨.hbm, 156, rfl⟩
abbrev main_call0_v96 : Ref sig .tc := ⟨.hbm, 157, rfl⟩
abbrev main_call0_v97 : Ref sig .tc := ⟨.hbm, 158, rfl⟩
abbrev main_call0_c_25 : Ref sig .tc := ⟨.hbm, 159, rfl⟩
abbrev main_call0_v98 : Ref sig .tc := ⟨.hbm, 160, rfl⟩
abbrev main_call0_v99 : Ref sig .tc := ⟨.hbm, 161, rfl⟩
abbrev main_call0_v100 : Ref sig .tc := ⟨.hbm, 162, rfl⟩
abbrev main_call0_v101 : Ref sig .tc := ⟨.hbm, 163, rfl⟩
abbrev main_call0_v102 : Ref sig .tc := ⟨.hbm, 164, rfl⟩
abbrev main_call0_v103 : Ref sig .tc := ⟨.hbm, 165, rfl⟩
abbrev main_call0_v104 : Ref sig .tc := ⟨.hbm, 166, rfl⟩
abbrev main_call0_v105 : Ref sig .tc := ⟨.hbm, 167, rfl⟩
abbrev main_call0_c_26 : Ref sig .tc := ⟨.hbm, 168, rfl⟩
abbrev main_call0_v106 : Ref sig .tc := ⟨.hbm, 169, rfl⟩
abbrev main_call0_v107 : Ref sig .tc := ⟨.hbm, 170, rfl⟩
abbrev main_call0_v108 : Ref sig .tc := ⟨.hbm, 171, rfl⟩
abbrev main_call0_c_27 : Ref sig .tc := ⟨.hbm, 172, rfl⟩
abbrev main_call0_v109 : Ref sig .tc := ⟨.hbm, 173, rfl⟩
abbrev main_call0_v110 : Ref sig .tc := ⟨.hbm, 174, rfl⟩
abbrev main_call0_c_28 : Ref sig .tc := ⟨.hbm, 175, rfl⟩
abbrev main_call0_v111 : Ref sig .tc := ⟨.hbm, 176, rfl⟩
abbrev main_call0_v112 : Ref sig .tc := ⟨.hbm, 177, rfl⟩
abbrev main_call0_v113 : Ref sig .tc := ⟨.hbm, 178, rfl⟩
abbrev main_call0_v114 : Ref sig .tc := ⟨.hbm, 179, rfl⟩
abbrev main_call0_v115 : Ref sig .tc := ⟨.hbm, 180, rfl⟩
abbrev main_call0_c_29 : Ref sig .tc := ⟨.hbm, 181, rfl⟩
abbrev main_call0_v116 : Ref sig .tc := ⟨.hbm, 182, rfl⟩
abbrev main_call0_v117 : Ref sig .tc := ⟨.hbm, 183, rfl⟩
abbrev main_call0_c_30 : Ref sig .tc := ⟨.hbm, 184, rfl⟩
abbrev main_call0_v118 : Ref sig .tc := ⟨.hbm, 185, rfl⟩
abbrev main_call0_v119 : Ref sig .tc := ⟨.hbm, 186, rfl⟩
abbrev main_call0_v120 : Ref sig .tc := ⟨.hbm, 187, rfl⟩
abbrev main_call0_v121 : Ref sig .tc := ⟨.hbm, 188, rfl⟩
abbrev main_call0_v122 : Ref sig .tc := ⟨.hbm, 189, rfl⟩
abbrev main_call0_c_31 : Ref sig .tc := ⟨.hbm, 190, rfl⟩
abbrev main_call0_v123 : Ref sig .tc := ⟨.hbm, 191, rfl⟩
abbrev main_call0_v124 : Ref sig .tc := ⟨.hbm, 192, rfl⟩
abbrev main_call0_c_32 : Ref sig .tc := ⟨.hbm, 193, rfl⟩
abbrev main_call0_v125 : Ref sig .tc := ⟨.hbm, 194, rfl⟩
abbrev main_call0_v126 : Ref sig .tc := ⟨.hbm, 195, rfl⟩
abbrev main_call0_v127 : Ref sig .tc := ⟨.hbm, 196, rfl⟩
abbrev main_call0_v128 : Ref sig .tc := ⟨.hbm, 197, rfl⟩
abbrev main_call0_v129 : Ref sig .tc := ⟨.hbm, 198, rfl⟩
abbrev main_call0_c_33 : Ref sig .tc := ⟨.hbm, 199, rfl⟩
abbrev main_call0_v130 : Ref sig .tc := ⟨.hbm, 200, rfl⟩
abbrev main_call0_v131 : Ref sig .tc := ⟨.hbm, 201, rfl⟩
abbrev main_call0_c_34 : Ref sig .tc := ⟨.hbm, 202, rfl⟩
abbrev main_call0_v132 : Ref sig .tc := ⟨.hbm, 203, rfl⟩
abbrev main_call0_v133 : Ref sig .tc := ⟨.hbm, 204, rfl⟩
abbrev main_call0_v134 : Ref sig .tc := ⟨.hbm, 205, rfl⟩
abbrev main_call0_v135 : Ref sig .tc := ⟨.hbm, 206, rfl⟩
abbrev main_call0_v136 : Ref sig .tc := ⟨.hbm, 207, rfl⟩
abbrev main_call0_v137 : Ref sig .tc := ⟨.hbm, 208, rfl⟩
abbrev main_call0_v138 : Ref sig .tc := ⟨.hbm, 209, rfl⟩
abbrev main_call0_v139 : Ref sig .tc := ⟨.hbm, 210, rfl⟩
abbrev main_call0_c_35 : Ref sig .tc := ⟨.hbm, 211, rfl⟩
abbrev main_call0_v140 : Ref sig .tc := ⟨.hbm, 212, rfl⟩
abbrev main_call0_v141 : Ref sig .tc := ⟨.hbm, 213, rfl⟩
abbrev main_call0_v142 : Ref sig .tc := ⟨.hbm, 214, rfl⟩
abbrev main_call0_c_36 : Ref sig .tc := ⟨.hbm, 215, rfl⟩
abbrev main_call0_v143 : Ref sig .tc := ⟨.hbm, 216, rfl⟩
abbrev main_call0_v144 : Ref sig .tc := ⟨.hbm, 217, rfl⟩
abbrev main_call0_c_37 : Ref sig .tc := ⟨.hbm, 218, rfl⟩
abbrev main_call0_v145 : Ref sig .tc := ⟨.hbm, 219, rfl⟩
abbrev main_call0_v146 : Ref sig .tc := ⟨.hbm, 220, rfl⟩
abbrev main_call0_v147 : Ref sig .tc := ⟨.hbm, 221, rfl⟩
abbrev main_call0_v148 : Ref sig .tc := ⟨.hbm, 222, rfl⟩
abbrev main_call0_v149 : Ref sig .tc := ⟨.hbm, 223, rfl⟩
abbrev main_call0_c_38 : Ref sig .tc := ⟨.hbm, 224, rfl⟩
abbrev main_call0_v150 : Ref sig .tc := ⟨.hbm, 225, rfl⟩
abbrev main_call0_v151 : Ref sig .tc := ⟨.hbm, 226, rfl⟩
abbrev main_call0_c_39 : Ref sig .tc := ⟨.hbm, 227, rfl⟩
abbrev main_call0_v152 : Ref sig .tc := ⟨.hbm, 228, rfl⟩
abbrev main_call0_v153 : Ref sig .tc := ⟨.hbm, 229, rfl⟩
abbrev main_call0_v154 : Ref sig .tc := ⟨.hbm, 230, rfl⟩
abbrev main_call0_v155 : Ref sig .tc := ⟨.hbm, 231, rfl⟩
abbrev main_call0_v156 : Ref sig .tc := ⟨.hbm, 232, rfl⟩
abbrev main_call0_c_40 : Ref sig .tc := ⟨.hbm, 233, rfl⟩
abbrev main_call0_v157 : Ref sig .tc := ⟨.hbm, 234, rfl⟩
abbrev main_call0_v158 : Ref sig .tc := ⟨.hbm, 235, rfl⟩
abbrev main_call0_c_41 : Ref sig .tc := ⟨.hbm, 236, rfl⟩
abbrev main_call0_v159 : Ref sig .tc := ⟨.hbm, 237, rfl⟩
abbrev main_call0_v160 : Ref sig .tc := ⟨.hbm, 238, rfl⟩
abbrev main_call0_v161 : Ref sig .tc := ⟨.hbm, 239, rfl⟩
abbrev main_call0_v162 : Ref sig .tc := ⟨.hbm, 240, rfl⟩
abbrev main_call0_v163 : Ref sig .tc := ⟨.hbm, 241, rfl⟩
abbrev main_call0_c_42 : Ref sig .tc := ⟨.hbm, 242, rfl⟩
abbrev main_call0_v164 : Ref sig .tc := ⟨.hbm, 243, rfl⟩
abbrev main_call0_v165 : Ref sig .tc := ⟨.hbm, 244, rfl⟩
abbrev main_call0_c_43 : Ref sig .tc := ⟨.hbm, 245, rfl⟩
abbrev main_call0_v166 : Ref sig .tc := ⟨.hbm, 246, rfl⟩
abbrev main_call0_v167 : Ref sig .tc := ⟨.hbm, 247, rfl⟩
abbrev main_call0_v168 : Ref sig .tc := ⟨.hbm, 248, rfl⟩
abbrev main_call0_v169 : Ref sig .tc := ⟨.hbm, 249, rfl⟩
abbrev main_call0_v170 : Ref sig .tc := ⟨.hbm, 250, rfl⟩
abbrev main_v25_0 : Ref sig .tc := ⟨.hbm, 251, rfl⟩
abbrev main_call0_v172 : Ref sig .tc := ⟨.hbm, 252, rfl⟩
abbrev main_call0_v173 : Ref sig .tc := ⟨.hbm, 253, rfl⟩
abbrev main_call0_c_44 : Ref sig .tc := ⟨.hbm, 254, rfl⟩
abbrev main_call0_v174 : Ref sig .tc := ⟨.hbm, 255, rfl⟩
abbrev main_v25_1 : Ref sig .tc := ⟨.hbm, 256, rfl⟩
abbrev main_v26 : Ref sig .tc := ⟨.hbm, 257, rfl⟩
abbrev main_c_5 : Ref sig .tc := ⟨.hbm, 258, rfl⟩
abbrev main_v27 : Ref sig .tc := ⟨.hbm, 259, rfl⟩
abbrev main_v28 : Ref sig .tc := ⟨.hbm, 260, rfl⟩
abbrev main_c_6 : Ref sig .tc := ⟨.hbm, 261, rfl⟩
abbrev main_v29 : Ref sig .tc := ⟨.hbm, 262, rfl⟩
abbrev main_v30 : Ref sig .tc := ⟨.hbm, 263, rfl⟩
abbrev main_v31 : Ref sig .tc := ⟨.hbm, 264, rfl⟩
abbrev main_cst_7 : Ref sig .tc := ⟨.hbm, 265, rfl⟩
abbrev main_v32 : Ref sig .tc := ⟨.hbm, 266, rfl⟩
abbrev main_v33 : Ref sig .tc := ⟨.hbm, 267, rfl⟩
abbrev main_cst_8 : Ref sig .tc := ⟨.hbm, 268, rfl⟩
abbrev main_v34 : Ref sig .tc := ⟨.hbm, 269, rfl⟩
abbrev main_v35 : Ref sig .tc := ⟨.hbm, 270, rfl⟩
abbrev main_cst_9 : Ref sig .tc := ⟨.hbm, 271, rfl⟩
abbrev main_v36 : Ref sig .tc := ⟨.hbm, 272, rfl⟩
abbrev main_v37 : Ref sig .tc := ⟨.hbm, 273, rfl⟩
abbrev main_cst_10 : Ref sig .tc := ⟨.hbm, 274, rfl⟩
abbrev main_v38 : Ref sig .tc := ⟨.hbm, 275, rfl⟩
abbrev main_v39 : Ref sig .tc := ⟨.hbm, 276, rfl⟩
abbrev main_v40 : Ref sig .tc := ⟨.hbm, 277, rfl⟩
abbrev main_v41 : Ref sig .tc := ⟨.hbm, 278, rfl⟩
abbrev main_v42 : Ref sig .tc := ⟨.hbm, 279, rfl⟩
abbrev main_v43 : Ref sig .tc := ⟨.hbm, 280, rfl⟩
abbrev main_v44 : Ref sig .tc := ⟨.hbm, 281, rfl⟩
abbrev main_call1_v0 : Ref sig .tc := ⟨.hbm, 282, rfl⟩
abbrev main_call1_cst : Ref sig .tc := ⟨.hbm, 283, rfl⟩
abbrev main_call1_c : Ref sig .tc := ⟨.hbm, 284, rfl⟩
abbrev main_call1_v1_0 : Ref sig .tc := ⟨.hbm, 285, rfl⟩
abbrev main_v45 : Ref sig .tc := ⟨.hbm, 286, rfl⟩
abbrev main_v46 : Ref sig .tc := ⟨.hbm, 287, rfl⟩
abbrev main_v47 : Ref sig .tc := ⟨.hbm, 288, rfl⟩
abbrev main_v48 : Ref sig .tc := ⟨.hbm, 289, rfl⟩
abbrev main_v49 : Ref sig .tc := ⟨.hbm, 290, rfl⟩
abbrev main_v50 : Ref sig .tc := ⟨.hbm, 291, rfl⟩
abbrev main_v51 : Ref sig .tc := ⟨.hbm, 292, rfl⟩
abbrev main_v52 : Ref sig .tc := ⟨.hbm, 293, rfl⟩
abbrev main_cst_11 : Ref sig .tc := ⟨.hbm, 294, rfl⟩
abbrev main_v53 : Ref sig .tc := ⟨.hbm, 295, rfl⟩
abbrev main_v54 : Ref sig .tc := ⟨.hbm, 296, rfl⟩
abbrev main_cst_12 : Ref sig .tc := ⟨.hbm, 297, rfl⟩
abbrev main_v55 : Ref sig .tc := ⟨.hbm, 298, rfl⟩
abbrev main_v56 : Ref sig .tc := ⟨.hbm, 299, rfl⟩
abbrev main_v57 : Ref sig .tc := ⟨.hbm, 300, rfl⟩
abbrev main_cst_13 : Ref sig .tc := ⟨.hbm, 301, rfl⟩
abbrev main_v58 : Ref sig .tc := ⟨.hbm, 302, rfl⟩
abbrev main_v59 : Ref sig .tc := ⟨.hbm, 303, rfl⟩
abbrev main_cst_14 : Ref sig .tc := ⟨.hbm, 304, rfl⟩
abbrev main_v60 : Ref sig .tc := ⟨.hbm, 305, rfl⟩
abbrev main_v61 : Ref sig .tc := ⟨.hbm, 306, rfl⟩
abbrev main_v62 : Ref sig .tc := ⟨.hbm, 307, rfl⟩
abbrev main_v63 : Ref sig .tc := ⟨.hbm, 308, rfl⟩
abbrev main_cst_15 : Ref sig .tc := ⟨.hbm, 309, rfl⟩
abbrev main_v64 : Ref sig .tc := ⟨.hbm, 310, rfl⟩
abbrev main_v65 : Ref sig .tc := ⟨.hbm, 311, rfl⟩
abbrev main_v66 : Ref sig .tc := ⟨.hbm, 312, rfl⟩
abbrev main_v67 : Ref sig .tc := ⟨.hbm, 313, rfl⟩

abbrev nD : Nat := 1
abbrev τ : Topo := Topo.v7x

variable {F : FTy → Type} [FloatOps F]
-- ==== Proof.Loop.lean ====
/- The two long regions of the kernel body, read as loops over the fifty 200-row chunks of a block. -/
module

public import proofs.«01_k».proof.Proof.Gen.KernelIdeal.Skeleton

@[expose] public section

set_option synthInstance.maxSize 4096

noncomputable section

namespace Cert.KernelIdeal.Hand

open Idealize.ShloMosaic Idealize.SL.Sem Cert.KernelIdeal.Gen

variable {F : FTy → Type} [FloatOps F]

/-- What the sweep carries: the best score of each lane, the chunk it came from, its weight. -/
abbrev Best (F : FTy → Type) : Type := FVec F S200x128 .f32 × IVec S200x128 32 × FVec F S200x128 .f32

/-- One chunk of the sweep, as printed: keep the lane's best unless the chunk's score is strictly
    larger. -/
def keep (v12 : IVec S200x128 32) (v13 v14 off : BitVec 32) (v29 : Vec F S200x128 .f32)
    (s : Best F) : Best F :=
  let v30 : FVec F S200x128 .f32 := shapeCast S200x128 v29 shapeCasts_S200x128_S200x128
  let v26 : FVec F S200x128 .f32 := s.1
  let v27 : IVec S200x128 32 := s.2.1
  let v28 : FVec F S200x128 .f32 := s.2.2
  let v31 : BitVec 32 := Scalar.addi v13 off
  let v32 : IVec S200x128 32 := broadcast S200x128 v31
  let v33 : IVec S200x128 32 := addi v12 v32
  let c0_i32_17 : BitVec 32 := 0#32
  let v34 : IVec S200x128 32 := broadcast S200x128 c0_i32_17
  let v35 : IVec S200x128 32 := addi v34 v33
  let c13_i32 : BitVec 32 := 13#32
  let v36 : IVec S200x128 32 := broadcast S200x128 c13_i32
  let v37 : IVec S200x128 32 := shli v33 v36
  let c19_i32 : BitVec 32 := 19#32
  let v38 : IVec S200x128 32 := broadcast S200x128 c19_i32
  let v39 : IVec S200x128 32 := shrui v33 v38
  let v40 : IVec S200x128 32 := ori v37 v39
  let v41 : IVec S200x128 32 := xori v40 v35
  let v42 : IVec S200x128 32 := addi v35 v41
  let c15_i32 : BitVec 32 := 15#32
  let v43 : IVec S200x128 32 := broadcast S200x128 c15_i32
  let v44 : IVec S200x128 32 := shli v41 v43
  let c17_i32 : BitVec 32 := 17#32
  let v45 : IVec S200x128 32 := broadcast S200x128 c17_i32
  let v46 : IVec S200x128 32 := shrui v41 v45
  let v47 : IVec S200x128 32 := ori v44 v46
  let v48 : IVec S200x128 32 := xori v47 v42
  let v49 : IVec S200x128 32 := addi v42 v48
  let c26_i32 : BitVec 32 := 26#32
  let v50 : IVec S200x128 32 := broadcast S200x128 c26_i32
  let v51 : IVec S200x128 32 := shli v48 v50
  let c6_i32 : BitVec 32 := 6#32
  let v52 : IVec S200x128 32 := broadcast S200x128 c6_i32
  let v53 : IVec S200x128 32 := shrui v48 v52
  let v54 : IVec S200x128 32 := ori v51 v53
  let v55 : IVec S200x128 32 := xori v54 v49
  let v56 : IVec S200x128 32 := addi v49 v55
  let c6_i32_18 : BitVec 32 := 6#32
  let v57 : IVec S200x128 32 := broadcast S200x128 c6_i32_18
  let v58 : IVec S200x128 32 := shli v55 v57
  let c26_i32_19 : BitVec 32 := 26#32
  let v59 : IVec S200x128 32 := broadcast S200x128 c26_i32_19
  let v60 : IVec S200x128 32 := shrui v55 v59
  let v61 : IVec S200x128 32 := ori v58 v60
  let v62 : IVec S200x128 32 := xori v61 v56
  let c42_i32_20 : BitVec 32 := 42#32
  let v63 : IVec S200x128 32 := broadcast S200x128 c42_i32_20
  let v64 : IVec S200x128 32 := addi v56 v63
  let c466689008_i32 : BitVec 32 := 466689008#32
  let v65 : IVec S200x128 32 := broadcast S200x128 c466689008_i32
  let v66 : IVec S200x128 32 := addi v62 v65
  let c1_i32_21 : BitVec 32 := 1#32
  let v67 : IVec S200x128 32 := broadcast S200x128 c1_i32_21
  let v68 : IVec S200x128 32 := addi v66 v67
  let v69 : IVec S200x128 32 := addi v64 v68
  let c17_i32_22 : BitVec 32 := 17#32
  let v70 : IVec S200x128 32 := broadcast S200x128 c17_i32_22
  let v71 : IVec S200x128 32 := shli v68 v70
  let c15_i32_23 : BitVec 32 := 15#32
  let v72 : IVec S200x128 32 := broadcast S200x128 c15_i32_23
  let v73 : IVec S200x128 32 := shrui v68 v72
  let v74 : IVec S200x128 32 := ori v71 v73
  let v75 : IVec S200x128 32 := xori v74 v69
  let v76 : IVec S200x128 32 := addi v69 v75
  let c29_i32 : BitVec 32 := 29#32
  let v77 : IVec S200x128 32 := broadcast S200x128 c29_i32
  let v78 : IVec S200x128 32 := shli v75 v77
  let c3_i32 : BitVec 32 := 3#32
  let v79 : IVec S200x128 32 := broadcast S200x128 c3_i32
  let v80 : IVec S200x128 32 := shrui v75 v79
  let v81 : IVec S200x128 32 := ori v78 v80
  let v82 : IVec S200x128 32 := xori v81 v76
  let v83 : IVec S200x128 32 := addi v76 v82
  let c16_i32 : BitVec 32 := 16#32
  let v84 : IVec S200x128 32 := broadcast S200x128 c16_i32
  let v85 : IVec S200x128 32 := shli v82 v84
  let c16_i32_24 : BitVec 32 := 16#32
  let v86 : IVec S200x128 32 := broadcast S200x128 c16_i32_24
  let v87 : IVec S200x128 32 := shrui v82 v86
  let v88 : IVec S200x128 32 := ori v85 v87
  let v89 : IVec S200x128 32 := xori v88 v83
  let v90 : IVec S200x128 32 := addi v83 v89
  let c24_i32 : BitVec 32 := 24#32
  let v91 : IVec S200x128 32 := broadcast S200x128 c24_i32
  let v92 : IVec S200x128 32 := shli v89 v91
  let c8_i32 : BitVec 32 := 8#32
  let v93 : IVec S200x128 32 := broadcast S200x128 c8_i32
  let v94 : IVec S200x128 32 := shrui v89 v93
  let v95 : IVec S200x128 32 := ori v92 v94
  let v96 : IVec S200x128 32 := xori v95 v90
  let c466689008_i32_25 : BitVec 32 := 466689008#32
  let v97 : IVec S200x128 32 := broadcast S200x128 c466689008_i32_25
  let v98 : IVec S200x128 32 := addi v90 v97
  let c0_i32_26 : BitVec 32 := 0#32
  let v99 : IVec S200x128 32 := broadcast S200x128 c0_i32_26
  let v100 : IVec S200x128 32 := addi v96 v99
  let c2_i32 : BitVec 32 := 2#32
  let v101 : IVec S200x128 32 := broadcast S200x128 c2_i32
  let v102 : IVec S200x128 32 := addi v100 v101
  let v103 : IVec S200x128 32 := addi v98 v102
  let c13_i32_27 : BitVec 32 := 13#32
  let v104 : IVec S200x128 32 := broadcast S200x128 c13_i32_27
  let v105 : IVec S200x128 32 := shli v102 v104
  let c19_i32_28 : BitVec 32 := 19#32
  let v106 : IVec S200x128 32 := broadcast S200x128 c19_i32_28
  let v107 : IVec S200x128 32 := shrui v102 v106
  let v108 : IVec S200x128 32 := ori v105 v107
  let v109 : IVec S200x128 32 := xori v108 v103
  let v110 : IVec S200x128 32 := addi v103 v109
  let c15_i32_29 : BitVec 32 := 15#32
  let v111 : IVec S200x128 32 := broadcast S200x128 c15_i32_29
  let v112 : IVec S200x128 32 := shli v109 v111
  let c17_i32_30 : BitVec 32 := 17#32
  let v113 : IVec S200x128 32 := broadcast S200x128 c17_i32_30
  let v114 : IVec S200x128 32 := shrui v109 v113
  let v115 : IVec S200x128 32 := ori v112 v114
  let v116 : IVec S200x128 32 := xori v115 v110
  let v117 : IVec S200x128 32 := addi v110 v116
  let c26_i32_31 : BitVec 32 := 26#32
  let v118 : IVec S200x128 32 := broadcast S200x128 c26_i32_31
  let v119 : IVec S200x128 32 := shli v116 v118
  let c6_i32_32 : BitVec 32 := 6#32
  let v120 : IVec S200x128 32 := broadcast S200x128 c6_i32_32
  let v121 : IVec S200x128 32 := shrui v116 v120
  let v122 : IVec S200x128 32 := ori v119 v121
  let v123 : IVec S200x128 32 := xori v122 v117
  let v124 : IVec S200x128 32 := addi v117 v123
  let c6_i32_33 : BitVec 32 := 6#32
  let v125 : IVec S200x128 32 := broadcast S200x128 c6_i32_33
  let v126 : IVec S200x128 32 := shli v123 v125
  let c26_i32_34 : BitVec 32 := 26#32
  let v127 : IVec S200x128 32 := broadcast S200x128 c26_i32_34
  let v128 : IVec S200x128 32 := shrui v123 v127
  let v129 : IVec S200x128 32 := ori v126 v128
  let v130 : IVec S200x128 32 := xori v129 v124
  let c0_i32_35 : BitVec 32 := 0#32
  let v131 : IVec S200x128 32 := broadcast S200x128 c0_i32_35
  let v132 : IVec S200x128 32 := addi v124 v131
  let c42_i32_36 : BitVec 32 := 42#32
  let v133 : IVec S200x128 32 := broadcast S200x128 c42_i32_36
  let v134 : IVec S200x128 32 := addi v130 v133
  let c3_i32_37 : BitVec 32 := 3#32
  let v135 : IVec S200x128 32 := broadcast S200x128 c3_i32_37
  let v136 : IVec S200x128 32 := addi v134 v135
  let v137 : IVec S200x128 32 := addi v132 v136
  let c17_i32_38 : BitVec 32 := 17#32
  let v138 : IVec S200x128 32 := broadcast S200x128 c17_i32_38
  let v139 : IVec S200x128 32 := shli v136 v138
  let c15_i32_39 : BitVec 32 := 15#32
  let v140 : IVec S200x128 32 := broadcast S200x128 c15_i32_39
  let v141 : IVec S200x128 32 := shrui v136 v140
  let v142 : IVec S200x128 32 := ori v139 v141
  let v143 : IVec S200x128 32 := xori v142 v137
  let v144 : IVec S200x128 32 := addi v137 v143
  let c29_i32_40 : BitVec 32 := 29#32
  let v145 : IVec S200x128 32 := broadcast S200x128 c29_i32_40
  let v146 : IVec S200x128 32 := shli v143 v145
  let c3_i32_41 : BitVec 32 := 3#32
  let v147 : IVec S200x128 32 := broadcast S200x128 c3_i32_41
  let v148 : IVec S200x128 32 := shrui v143 v147
  let v149 : IVec S200x128 32 := ori v146 v148
  let v150 : IVec S200x128 32 := xori v149 v144
  let v151 : IVec S200x128 32 := addi v144 v150
  let c16_i32_42 : BitVec 32 := 16#32
  let v152 : IVec S200x128 32 := broadcast S200x128 c16_i32_42
  let v153 : IVec S200x128 32 := shli v150 v152
  let c16_i32_43 : BitVec 32 := 16#32
  let v154 : IVec S200x128 32 := broadcast S200x128 c16_i32_43
  let v155 : IVec S200x128 32 := shrui v150 v154
  let v156 : IVec S200x128 32 := ori v153 v155
  let v157 : IVec S200x128 32 := xori v156 v151
  let v158 : IVec S200x128 32 := addi v151 v157
  let c24_i32_44 : BitVec 32 := 24#32
  let v159 : IVec S200x128 32 := broadcast S200x128 c24_i32_44
  let v160 : IVec S200x128 32 := shli v157 v159
  let c8_i32_45 : BitVec 32 := 8#32
  let v161 : IVec S200x128 32 := broadcast S200x128 c8_i32_45
  let v162 : IVec S200x128 32 := shrui v157 v161
  let v163 : IVec S200x128 32 := ori v160 v162
  let v164 : IVec S200x128 32 := xori v163 v158
  let c42_i32_46 : BitVec 32 := 42#32
  let v165 : IVec S200x128 32 := broadcast S200x128 c42_i32_46
  let v166 : IVec S200x128 32 := addi v158 v165
  let c466689008_i32_47 : BitVec 32 := 466689008#32
  let v167 : IVec S200x128 32 := broadcast S200x128 c466689008_i32_47
  let v168 : IVec S200x128 32 := addi v164 v167
  let c4_i32 : BitVec 32 := 4#32
  let v169 : IVec S200x128 32 := broadcast S200x128 c4_i32
  let v170 : IVec S200x128 32 := addi v168 v169
  let v171 : IVec S200x128 32 := addi v166 v170
  let c13_i32_48 : BitVec 32 := 13#32
  let v172 : IVec S200x128 32 := broadcast S200x128 c13_i32_48
  let v173 : IVec S200x128 32 := shli v170 v172
  let c19_i32_49 : BitVec 32 := 19#32
  let v174 : IVec S200x128 32 := broadcast S200x128 c19_i32_49
  let v175 : IVec S200x128 32 := shrui v170 v174
  let v176 : IVec S200x128 32 := ori v173 v175
  let v177 : IVec S200x128 32 := xori v176 v171
  let v178 : IVec S200x128 32 := addi v171 v177
  let c15_i32_50 : BitVec 32 := 15#32
  let v179 : IVec S200x128 32 := broadcast S200x128 c15_i32_50
  let v180 : IVec S200x128 32 := shli v177 v179
  let c17_i32_51 : BitVec 32 := 17#32
  let v181 : IVec S200x128 32 := broadcast S200x128 c17_i32_51
  let v182 : IVec S200x128 32 := shrui v177 v181
  let v183 : IVec S200x128 32 := ori v180 v182
  let v184 : IVec S200x128 32 := xori v183 v178
  let v185 : IVec S200x128 32 := addi v178 v184
  let c26_i32_52 : BitVec 32 := 26#32
  let v186 : IVec S200x128 32 := broadcast S200x128 c26_i32_52
  let v187 : IVec S200x128 32 := shli v184 v186
  let c6_i32_53 : BitVec 32 := 6#32
  let v188 : IVec S200x128 32 := broadcast S200x128 c6_i32_53
  let v189 : IVec S200x128 32 := shrui v184 v188
  let v190 : IVec S200x128 32 := ori v187 v189
  let v191 : IVec S200x128 32 := xori v190 v185
  let v192 : IVec S200x128 32 := addi v185 v191
  let c6_i32_54 : BitVec 32 := 6#32
  let v193 : IVec S200x128 32 := broadcast S200x128 c6_i32_54
  let v194 : IVec S200x128 32 := shli v191 v193
  let c26_i32_55 : BitVec 32 := 26#32
  let v195 : IVec S200x128 32 := broadcast S200x128 c26_i32_55
  let v196 : IVec S200x128 32 := shrui v191 v195
  let v197 : IVec S200x128 32 := ori v194 v196
  let v198 : IVec S200x128 32 := xori v197 v192
  let c466689008_i32_56 : BitVec 32 := 466689008#32
  let v199 : IVec S200x128 32 := broadcast S200x128 c466689008_i32_56
  let v200 : IVec S200x128 32 := addi v192 v199
  let c0_i32_57 : BitVec 32 := 0#32
  let v201 : IVec S200x128 32 := broadcast S200x128 c0_i32_57
  let v202 : IVec S200x128 32 := addi v198 v201
  let c5_i32 : BitVec 32 := 5#32
  let v203 : IVec S200x128 32 := broadcast S200x128 c5_i32
  let v204 : IVec S200x128 32 := addi v202 v203
  let v205 : IVec S200x128 32 := xori v200 v204
  let c9_i32 : BitVec 32 := 9#32
  let v206 : IVec S200x128 32 := broadcast S200x128 c9_i32
  let v207 : IVec S200x128 32 := shrui v205 v206
  let c1065353216_i32 : BitVec 32 := 1065353216#32
  let v208 : IVec S200x128 32 := broadcast S200x128 c1065353216_i32
  let v209 : IVec S200x128 32 := ori v207 v208
  let v210 : FVec F S200x128 .f32 := bitcastToFloat .f32 v209
  let cst : F .f32 := Scalar.ofBits .f32 0x3F800000#32
  let v211 : FVec F S200x128 .f32 := broadcast S200x128 cst
  let v212 : FVec F S200x128 .f32 := subf v210 v211
  let cst_58 : F .f32 := Scalar.ofBits .f32 0x00800000#32
  let v213 : FVec F S200x128 .f32 := broadcast S200x128 cst_58
  let v214 : FVec F S200x128 .f32 := addf v212 v213
  let v215 : FVec F S200x128 .f32 := log v214
  let cst_59 : F .f32 := Scalar.ofBits .f32 0x00000000#32
  let v216 : FVec F S200x128 .f32 := broadcast S200x128 cst_59
  let v217 : FVec F S200x128 .f32 := subf v216 v215
  let v218 : FVec F S200x128 .f32 := log v217
  let cst_60 : F .f32 := Scalar.ofBits .f32 0x00000000#32
  let v219 : FVec F S200x128 .f32 := broadcast S200x128 cst_60
  let v220 : FVec F S200x128 .f32 := subf v219 v218
  let cst_61 : F .f32 := Scalar.ofBits .f32 0x0DA24260#32
  let v221 : FVec F S200x128 .f32 := broadcast S200x128 cst_61
  let v222 : FVec F S200x128 .f32 := maximumf v30 v221
  let v223 : FVec F S200x128 .f32 := log v222
  let v224 : FVec F S200x128 .f32 := addf v220 v223
  let v225 : IVec S200x128 1 := cmpf .ogt v224 v26
  let v226 : FVec F S200x128 .f32 := select v225 v224 v26
  let v227 : BitVec 32 := Scalar.addi v14 off
  let v228 : IVec S200x128 32 := broadcast S200x128 v227
  let v229 : IVec S200x128 32 := select v225 v228 v27
  let v230 : FVec F S200x128 .f32 := select v225 v30 v28
  (v226, v229, v230)

/-- Chunk `n` lies inside the block. -/
theorem chunk_inb (n : ℕ) (h : n + 1 ≤ 50) :
    ∀ a, (![200 * n, 0] : Fin 2 → Nat) a + S200x128.size a ≤ S10000x128.size a := by
  intro a
  fin_cases a
  · show 200 * n + 200 ≤ 10000
    omega
  · show 0 + 128 ≤ 128
    omega

/-- A sweep with a chunk left starts inside the block. -/
theorem one_le {n k : ℕ} (h : n + 1 + k ≤ 50) : k + 1 ≤ 50 := by omega

/-- The sweep after its first chunk still ends inside the block. -/
theorem shift_le {n k : ℕ} (h : n + 1 + k ≤ 50) : n + (k + 1) ≤ 50 := by omega

/-- The rows `200 n` to `200 n + 199` of a block. -/
abbrev chunk (n : ℕ) (h : n + 1 ≤ 50) : Rect S10000x128 :=
  Rect.unit (s := S10000x128) ![200 * n, 0] S200x128.size (chunk_inb n h)

/-- The sweep over `n` chunks from chunk `k` on. -/
def sweep (arg2 : Memref sig .tc .vmem S10000x128 .f32) (v12 : IVec S200x128 32) (v13 v14 : BitVec 32) :
    (n k : ℕ) → n + k ≤ 50 → Best F → Prog (TpuEff nD τ sig (Elt F) Λ₀ .tc) (Best F)
  | 0, _, _, s => pure s
  | n + 1, k, h, s => do
    let x : Vec F S200x128 .f32 ← Prog.lift (.load arg2 (chunk k (one_le h)).toLoadRect (View.loadsAt_vmem h_S200x128))
    sweep arg2 v12 v13 v14 n (k + 1) (shift_le h) (keep v12 v13 v14 (BitVec.ofNat 32 (200 * k)) x s)

/-- The first pass over a block: read the carried best, sweep, write it back. -/
def pass0 (arg2 : Memref sig .tc .vmem S10000x128 .f32) (arg5 : Memref sig .tc .vmem S200x128 .f32)
    (arg6 : Memref sig .tc .vmem S200x128 .i32) (arg7 : Memref sig .tc .vmem S200x128 .f32)
    (v12 : IVec S200x128 32) (v13 v14 : BitVec 32) :
    Prog (TpuEff nD τ sig (Elt F) Λ₀ .tc) PUnit := do
  let m : Vec F S200x128 .f32 ← Prog.lift (.load arg5 (Rect.unit (s := S200x128) ![0, 0] S200x128.size inb_S200x128_S200x128_0_0).toLoadRect (View.loadsAt_vmem h_S200x128))
  let c : Vec F S200x128 .i32 ← Prog.lift (.load arg6 (Rect.unit (s := S200x128) ![0, 0] S200x128.size inb_S200x128_S200x128_0_0).toLoadRect (View.loadsAt_vmem h_S200x128))
  let q : Vec F S200x128 .f32 ← Prog.lift (.load arg7 (Rect.unit (s := S200x128) ![0, 0] S200x128.size inb_S200x128_S200x128_0_0).toLoadRect (View.loadsAt_vmem h_S200x128))
  let s ← sweep arg2 v12 v13 v14 50 0 (Nat.le_refl 50) (m, c, q)
  let _ : Vec F S200x128 .f32 ← Prog.lift (.load arg5 (Rect.unit (s := S200x128) ![0, 0] S200x128.size inb_S200x128_S200x128_0_0).toLoadRect (View.loadsAt_vmem h_S200x128))
  Prog.lift (.store arg5 (Rect.unit (s := S200x128) ![0, 0] S200x128.size inb_S200x128_S200x128_0_0) (shapeCast S200x128 s.1 shapeCasts_S200x128_S200x128) Finset.univ (View.stores_vmem_bits_univ h_S200x128 rfl) (.inl rfl))
  let _ : Vec F S200x128 .i32 ← Prog.lift (.load arg6 (Rect.unit (s := S200x128) ![0, 0] S200x128.size inb_S200x128_S200x128_0_0).toLoadRect (View.loadsAt_vmem h_S200x128))
  Prog.lift (.store arg6 (Rect.unit (s := S200x128) ![0, 0] S200x128.size inb_S200x128_S200x128_0_0) (shapeCast S200x128 s.2.1 shapeCasts_S200x128_S200x128) Finset.univ (View.stores_vmem_bits_univ h_S200x128 rfl) (.inl rfl))
  let _ : Vec F S200x128 .f32 ← Prog.lift (.load arg7 (Rect.unit (s := S200x128) ![0, 0] S200x128.size inb_S200x128_S200x128_0_0).toLoadRect (View.loadsAt_vmem h_S200x128))
  Prog.lift (.store arg7 (Rect.unit (s := S200x128) ![0, 0] S200x128.size inb_S200x128_S200x128_0_0) (shapeCast S200x128 s.2.2 shapeCasts_S200x128_S200x128) Finset.univ (View.stores_vmem_bits_univ h_S200x128 rfl) (.inl rfl))
  pure ⟨⟩

/-- What the second pass writes over a chunk: the chosen row's own value in the lane that holds it,
    the not-chosen value everywhere else. -/
def spread (v7 : IVec S200x128 32) (v14 off : BitVec 32) (idx : Vec F S1x128 .i32) (vc : Vec F S1x128 .f32)
    (x : Vec F S200x128 .f32) : FVec F S200x128 .f32 :=
  let p := shapeCast S200x128 x shapeCasts_S200x128_S200x128
  select (cmpi .eq v7 (broadcastTo S200x128 (subi idx (broadcast S1x128 (Scalar.addi v14 off))) broadcasts_S1x128_S200x128))
    (broadcastTo S200x128 (shapeCast S1x128 vc shapeCasts_S1x128_S1x128) broadcasts_S1x128_S200x128)
    (divf p (maximumf (subf (broadcast S200x128 (Scalar.ofBits .f32 0x3F800000#32)) p)
      (broadcast S200x128 (Scalar.ofBits .f32 0x2EDBE6FF#32))))

/-- The second pass over `n` chunks from chunk `k` on. -/
def paint (arg2 arg3 : Memref sig .tc .vmem S10000x128 .f32) (v7 : IVec S200x128 32) (v14 : BitVec 32)
    (idx : Vec F S1x128 .i32) (vc : Vec F S1x128 .f32) :
    (n k : ℕ) → n + k ≤ 50 → Prog (TpuEff nD τ sig (Elt F) Λ₀ .tc) PUnit
  | 0, _, _ => pure ⟨⟩
  | n + 1, k, h => do
    let x : Vec F S200x128 .f32 ← Prog.lift (.load arg2 (chunk k (one_le h)).toLoadRect (View.loadsAt_vmem h_S200x128))
    let _ : Vec F S200x128 .f32 ← Prog.lift (.load arg3 (chunk k (one_le h)).toLoadRect (View.loadsAt_vmem h_S200x128))
    Prog.lift (.store arg3 (chunk k (one_le h)) (spread v7 v14 (BitVec.ofNat 32 (200 * k)) idx vc x) Finset.univ (View.stores_vmem_bits_univ h_S200x128 rfl) (.inl rfl))
    paint arg2 arg3 v7 v14 idx vc n (k + 1) (shift_le h)

/-- The second pass over a block. -/
def pass1 (arg2 arg3 : Memref sig .tc .vmem S10000x128 .f32) (arg8 : Memref sig .tc .vmem S1x128 .i32)
    (arg9 : Memref sig .tc .vmem S1x128 .f32) (v7 : IVec S200x128 32) (v14 : BitVec 32) :
    Prog (TpuEff nD τ sig (Elt F) Λ₀ .tc) PUnit := do
  let idx : Vec F S1x128 .i32 ← Prog.lift (.load arg8 (Rect.unit (s := S1x128) ![0, 0] S1x128.size inb_S1x128_S1x128_0_0).toLoadRect (View.loadsAt_vmem h_S1x128))
  let vc : Vec F S1x128 .f32 ← Prog.lift (.load arg9 (Rect.unit (s := S1x128) ![0, 0] S1x128.size inb_S1x128_S1x128_0_0).toLoadRect (View.loadsAt_vmem h_S1x128))
  paint arg2 arg3 v7 v14 idx vc 50 0 (Nat.le_refl 50)

end Cert.KernelIdeal.Hand
-- ==== Proof.Body.lean ====
/- The kernel body as four guarded passes, and that the printed body is these. -/
module

public import proofs.«01_k».proof.Proof.Loop

@[expose] public section

set_option synthInstance.maxSize 4096
set_option maxHeartbeats 0
set_option maxRecDepth 65536

noncomputable section

namespace Cert.KernelIdeal.Hand

open Idealize.ShloMosaic Idealize.SL.Sem Cert.KernelIdeal.Gen

variable {F : FTy → Type} [FloatOps F]

/-- The start of the carried best: minus infinity, chunk zero, weight zero. -/
def start (arg5 : Memref sig .tc .vmem S200x128 .f32) (arg6 : Memref sig .tc .vmem S200x128 .i32)
    (arg7 : Memref sig .tc .vmem S200x128 .f32) : Prog (TpuEff nD τ sig (Elt F) Λ₀ .tc) PUnit := do
  have cst : F .f32 := Scalar.ofBits .f32 0xFF800000#32
  have v26 : FVec F S200x128 .f32 := broadcast S200x128 cst
  let v27 : Vec F S200x128 .f32 ← Prog.lift (.load arg5 (Rect.unit (s := S200x128) ![0, 0] S200x128.size inb_S200x128_S200x128_0_0).toLoadRect (View.loadsAt_vmem h_S200x128))
  have v28 : FVec F S200x128 .f32 := shapeCast S200x128 v27 shapeCasts_S200x128_S200x128
  have v29 : FVec F S200x128 .f32 := shapeCast S200x128 v26 shapeCasts_S200x128_S200x128
  Prog.lift (.store arg5 (Rect.unit (s := S200x128) ![0, 0] S200x128.size inb_S200x128_S200x128_0_0) v29 Finset.univ (View.stores_vmem_bits_univ h_S200x128 rfl) (.inl rfl))
  let c0_i32_10 : BitVec 32 := 0#32
  have v30 : IVec S200x128 32 := broadcast S200x128 c0_i32_10
  let v31 : Vec F S200x128 .i32 ← Prog.lift (.load arg6 (Rect.unit (s := S200x128) ![0, 0] S200x128.size inb_S200x128_S200x128_0_0).toLoadRect (View.loadsAt_vmem h_S200x128))
  have v32 : IVec S200x128 32 := shapeCast S200x128 v31 shapeCasts_S200x128_S200x128
  have v33 : IVec S200x128 32 := shapeCast S200x128 v30 shapeCasts_S200x128_S200x128
  Prog.lift (.store arg6 (Rect.unit (s := S200x128) ![0, 0] S200x128.size inb_S200x128_S200x128_0_0) v33 Finset.univ (View.stores_vmem_bits_univ h_S200x128 rfl) (.inl rfl))
  have cst_13 : F .f32 := Scalar.ofBits .f32 0x00000000#32
  have v34 : FVec F S200x128 .f32 := broadcast S200x128 cst_13
  let v35 : Vec F S200x128 .f32 ← Prog.lift (.load arg7 (Rect.unit (s := S200x128) ![0, 0] S200x128.size inb_S200x128_S200x128_0_0).toLoadRect (View.loadsAt_vmem h_S200x128))
  have v36 : FVec F S200x128 .f32 := shapeCast S200x128 v35 shapeCasts_S200x128_S200x128
  have v37 : FVec F S200x128 .f32 := shapeCast S200x128 v34 shapeCasts_S200x128_S200x128
  Prog.lift (.store arg7 (Rect.unit (s := S200x128) ![0, 0] S200x128.size inb_S200x128_S200x128_0_0) v37 Finset.univ (View.stores_vmem_bits_univ h_S200x128 rfl) (.inl rfl))
  pure ⟨⟩

/-- The fold of the carried best over the 200 sublanes: the chosen row of each lane and its value. -/
def fold (arg4 : Memref sig .tc .vmem S1x128 .i32) (arg5 : Memref sig .tc .vmem S200x128 .f32)
    (arg6 : Memref sig .tc .vmem S200x128 .i32) (arg7 : Memref sig .tc .vmem S200x128 .f32)
    (arg8 : Memref sig .tc .vmem S1x128 .i32) (arg9 : Memref sig .tc .vmem S1x128 .f32)
    (v7 : IVec S200x128 32) : Prog (TpuEff nD τ sig (Elt F) Λ₀ .tc) PUnit := do
  let v26 : Vec F S200x128 .f32 ← Prog.lift (.load arg5 (Rect.unit (s := S200x128) ![0, 0] S200x128.size inb_S200x128_S200x128_0_0).toLoadRect (View.loadsAt_vmem h_S200x128))
  let v27 : Vec F S200x128 .i32 ← Prog.lift (.load arg6 (Rect.unit (s := S200x128) ![0, 0] S200x128.size inb_S200x128_S200x128_0_0).toLoadRect (View.loadsAt_vmem h_S200x128))
  have v28 : IVec S200x128 32 := addi v27 v7
  let v29 : Vec F S200x128 .f32 ← Prog.lift (.load arg7 (Rect.unit (s := S200x128) ![0, 0] S200x128.size inb_S200x128_S200x128_0_0).toLoadRect (View.loadsAt_vmem h_S200x128))
  have cst : FVec F S128 .f32 := constant S128 .f32 0xFF800000#32
  have v30 : FVec F S128 .f32 := multiReduction .maximumf [0] S128 v26 0xFF800000#32 reduces_S200x128_S128 (.inl rfl) rfl
  have v31 : FVec F S1x128 .f32 := shapeCast S1x128 v30 shapeCasts_S128_S1x128
  have v32 : FVec F S200x128 .f32 := broadcastTo S200x128 v31 broadcasts_S1x128_S200x128
  have v33 : IVec S200x128 1 := cmpf .oeq v26 v32
  let c2147483647_i32 : BitVec 32 := 2147483647#32
  have v34 : IVec S200x128 32 := broadcast S200x128 c2147483647_i32
  have v35 : IVec S200x128 32 := select v33 v28 v34
  have cst_14 : IVec S128 32 := constantI S128 32 2147483647#32
  have v36 : IVec S128 32 := multiReductionI .minsi [0] S128 v35 2147483647#32 reduces_S200x128_S128 rfl
  have v37 : IVec S1x128 32 := shapeCast S1x128 v36 shapeCasts_S128_S1x128
  have v38 : IVec S200x128 32 := broadcastTo S200x128 v37 broadcasts_S1x128_S200x128
  have v39 : IVec S200x128 1 := cmpi .eq v28 v38
  have v40 : IVec S200x128 1 := andi v33 v39
  have cst_15 : F .f32 := Scalar.ofBits .f32 0xBF800000#32
  have v41 : FVec F S200x128 .f32 := broadcast S200x128 cst_15
  have v42 : Vec F S200x128 .f32 := select v40 v29 v41
  have cst_16 : FVec F S128 .f32 := constant S128 .f32 0xFF800000#32
  have v43 : FVec F S128 .f32 := multiReduction .maximumf [0] S128 v42 0xFF800000#32 reduces_S200x128_S128 (.inl rfl) rfl
  have v44 : FVec F S1x128 .f32 := shapeCast S1x128 v43 shapeCasts_S128_S1x128
  let v45 : Vec F S1x128 .i32 ← Prog.lift (.load arg8 (Rect.unit (s := S1x128) ![0, 0] S1x128.size inb_S1x128_S1x128_0_0).toLoadRect (View.loadsAt_vmem h_S1x128))
  have v46 : IVec S1x128 32 := shapeCast S1x128 v45 shapeCasts_S1x128_S1x128
  have v47 : IVec S1x128 32 := shapeCast S1x128 v37 shapeCasts_S1x128_S1x128
  Prog.lift (.store arg8 (Rect.unit (s := S1x128) ![0, 0] S1x128.size inb_S1x128_S1x128_0_0) v47 Finset.univ (View.stores_vmem_bits_univ h_S1x128 rfl) (.inl rfl))
  have cst_19 : F .f32 := Scalar.ofBits .f32 0x3F800000#32
  have v48 : FVec F S1x128 .f32 := broadcast S1x128 cst_19
  have v49 : FVec F S1x128 .f32 := subf v48 v44
  have cst_20 : F .f32 := Scalar.ofBits .f32 0x2EDBE6FF#32
  have v50 : FVec F S1x128 .f32 := broadcast S1x128 cst_20
  have v51 : FVec F S1x128 .f32 := maximumf v44 v50
  have v52 : FVec F S1x128 .f32 := divf v49 v51
  let v53 : Vec F S1x128 .f32 ← Prog.lift (.load arg9 (Rect.unit (s := S1x128) ![0, 0] S1x128.size inb_S1x128_S1x128_0_0).toLoadRect (View.loadsAt_vmem h_S1x128))
  have v54 : FVec F S1x128 .f32 := shapeCast S1x128 v53 shapeCasts_S1x128_S1x128
  have v55 : FVec F S1x128 .f32 := shapeCast S1x128 v52 shapeCasts_S1x128_S1x128
  Prog.lift (.store arg9 (Rect.unit (s := S1x128) ![0, 0] S1x128.size inb_S1x128_S1x128_0_0) v55 Finset.univ (View.stores_vmem_bits_univ h_S1x128 rfl) (.inl rfl))
  let v56 : Vec F S1x128 .i32 ← Prog.lift (.load arg4 (Rect.unit (s := S1x128) ![0, 0] S1x128.size inb_S1x128_S1x128_0_0).toLoadRect (View.loadsAt_vmem h_S1x128))
  Prog.lift (.store arg4 (Rect.unit (s := S1x128) ![0, 0] S1x128.size inb_S1x128_S1x128_0_0) v37 Finset.univ (View.stores_vmem_bits_univ h_S1x128 rfl) (.inl rfl))
  pure ⟨⟩

/-- The sublane number of each lane. -/
def rowNo : IVec S200x128 32 := iota .tc S200x128 32 [0] iota_S200x128_d0_w32

/-- The counter of each lane in the first chunk of all, with the key added. -/
def counter : IVec S200x128 32 :=
  addi (muli (iota .tc S200x128 32 [1] iota_S200x128_d1_w32) (broadcast S200x128 100000#32))
    (addi (iota .tc S200x128 32 [0] iota_S200x128_d0_w32) (broadcast S200x128 42#32))

/-- The first row of the block of grid point `i`, as a word. -/
def base (i : grid0.Coords) : BitVec 32 := Scalar.muli (BitVec.ofNat 32 (i 1).val) 10000#32

/-- The condition of the start. -/
def cond1 (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- The condition of the first pass. -/
def cond2 (i : grid0.Coords) : BitVec 1 :=
  Scalar.cmpi .ne (Scalar.extui (Scalar.cmpi .eq (BitVec.ofNat 32 (i 0).val) 0#32) : BitVec 32) 0#32

/-- The kernel body as four guarded passes. -/
def body (i : grid0.Coords) (arg2 : Memref sig .tc .vmem S10000x128 .f32) (harg2 : arg2.IsWhole) (arg3 : Memref sig .tc .vmem S10000x128 .f32) (harg3 : arg3.IsWhole) (arg4 : Memref sig .tc .vmem S1x128 .i32) (harg4 : arg4.IsWhole) (arg5 : Memref sig .tc .vmem S200x128 .f32) (harg5 : arg5.IsWhole) (arg6 : Memref sig .tc .vmem S200x128 .i32) (harg6 : arg6.IsWhole) (arg7 : Memref sig .tc .vmem S200x128 .f32) (harg7 : arg7.IsWhole) (arg8 : Memref sig .tc .vmem S1x128 .i32) (harg8 : arg8.IsWhole) (arg9 : Memref sig .tc .vmem S1x128 .f32) (harg9 : arg9.IsWhole) :
    Prog (TpuEff nD τ sig (Elt F) Λ₀ .tc) PUnit := do
  if h1 : cond1 i = 1#1 then start arg5 arg6 arg7 else pure ⟨⟩
  if h2 : cond2 i = 1#1 then pass0 arg2 arg5 arg6 arg7 counter (base i) (base i) else pure ⟨⟩
  if h3 : k0_cond3 i = 1#1 then fold arg4 arg5 arg6 arg7 arg8 arg9 rowNo else pure ⟨⟩
  if h4 : k0_cond4 i = 1#1 then pass1 arg2 arg3 arg8 arg9 rowNo (base i) else pure ⟨⟩
  pure ⟨⟩

/-- The printed body is the four guarded passes. -/
theorem body_eq (i : grid0.Coords) (arg2 : Memref sig .tc .vmem S10000x128 .f32) (harg2 : arg2.IsWhole) (arg3 : Memref sig .tc .vmem S10000x128 .f32) (harg3 : arg3.IsWhole) (arg4 : Memref sig .tc .vmem S1x128 .i32) (harg4 : arg4.IsWhole) (arg5 : Memref sig .tc .vmem S200x128 .f32) (harg5 : arg5.IsWhole) (arg6 : Memref sig .tc .vmem S200x128 .i32) (harg6 : arg6.IsWhole) (arg7 : Memref sig .tc .vmem S200x128 .f32) (harg7 : arg7.IsWhole) (arg8 : Memref sig .tc .vmem S1x128 .i32) (harg8 : arg8.IsWhole) (arg9 : Memref sig .tc .vmem S1x128 .f32) (harg9 : arg9.IsWhole) :
    cc0__main_kernel (F := F) i arg2 harg2 arg3 harg3 arg4 harg4 arg5 harg5 arg6 harg6 arg7 harg7 arg8 harg8 arg9 harg9 = body i arg2 harg2 arg3 harg3 arg4 harg4 arg5 harg5 arg6 harg6 arg7 harg7 arg8 harg8 arg9 harg9 := rfl

end Cert.KernelIdeal.Hand
-- ==== Proof.Rules.lean ====
/- Loads and stores of one whole window or scratch buffer, told by the contents it reads as. -/
module

public import proofs.«01_k».proof.Proof.Body
public import proofs.«01_k».proof.Proof.Gen.KernelIdeal.Frame

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The rule context of the body's programs. -/
abbrev runs (c : Dev nD) {α : Type} (p : Prog (TpuEff nD τ sig (Elt F) Λ₀ .tc) α) (Q : α → sProp 𝕄) : sProp 𝕄 :=
  wp frame (wpE (defs₀ (F := F)) Variants.none c none) Set.univ p Q

/-- The contents a buffer reads as, held in full or at a share. -/
abbrev held (c : Dev nD) {s : Shape} {e : EltTy} (m : Memref sig .tc .vmem s e) (q : PosShare TreeShare)
    (X : s.Idx → Elt F e) : sProp 𝕄 :=
  owns (Ix := Unit) (Name := ℕ) (U := UR sig nD τ) (Lvl := ℕ) (c : Thread nD τ) m q X

/-- A load of a rectangle reads the contents through it and changes nothing. -/
theorem runs_load (c : Dev nD) {s : Shape} {e : EltTy} {m : Memref sig .tc .vmem s e} {r : Rect s}
    {hl : m.view.LoadsAt r.toLoadRect} {Q : (r.shape.Idx → Elt F e) → sProp 𝕄} {q : PosShare TreeShare}
    {X : s.Idx → Elt F e} :
    held c m q X ⊢ iprop((held c m q X -∗ Q (fun j => X (r.emb j))) -∗
      runs c (Prog.lift (.load m r.toLoadRect hl)) Q) := by
  unfold held owns
  iintro ⟨%f, %hf, H⟩ Hk
  subst hf
  have e : (fun j => m.view.read (Elt F) f (r.emb j)) = m.view.readAt (Elt F) r.toLoadRect f := rfl
  rw [e]
  iapply (wp_load (defs := defs₀ (F := F)) Variants.none c none Set.univ (m := m) (r := r.toLoadRect)
    (S := m.view.set) (f := f) (m.view.setOn_subset_set _)) $$ H
  iintro H
  simp only [wp_ret]
  imodintro
  iapply Hk
  iexists f
  isplitr
  · ipureintro; rfl
  · iexact H

/-- A store over a rectangle leaves what was written there and the old contents elsewhere. -/
theorem runs_store (c : Dev nD) {s : Shape} {e : EltTy} {m : Memref sig .tc .vmem s e} {r : Rect s}
    {w : r.shape.Idx → Elt F e} {hx : (m.access r).Stores Finset.univ}
    {hm : Finset.univ = Finset.univ ∨ ∀ a, r.stride a = 1} {Q : PUnit → sProp 𝕄}
    {X : s.Idx → Elt F e} (X' : s.Idx → Elt F e) (hin : ∀ j, X' (r.emb j) = w j) (hout : ∀ y, y ∉ r.set → X' y = X y) :
    held c m fullShare X ⊢ iprop((held c m fullShare X' -∗ Q ⟨⟩) -∗
      runs c (Prog.lift (.store m r w Finset.univ hx hm)) Q) := by
  unfold held owns
  iintro ⟨%f, %hf, H⟩ Hk
  subst hf
  iapply (wp_store_writes₀ (defs := defs₀ (F := F)) Variants.none c none Set.univ (m := m) (r := r)
    (S := m.view.set) (f := f) (Memref.setOn_access_subset m r Finset.univ)) $$ H
  iintro H
  simp only [wp_ret]
  imodintro
  iapply Hk
  iexists m.view.writes (Elt F) f [⟨r, w⟩]
  isplitr
  · ipureintro
    funext y
    by_cases hy : y ∈ r.set
    · obtain ⟨j, rfl⟩ : ∃ j, r.emb j = y := by
        rw [← Rect.map_emb_univ] at hy
        obtain ⟨j, -, e⟩ := Finset.mem_map.mp hy
        exact ⟨j, e⟩
      rw [View.read_writes_cons_emb, hin]
    · rw [View.read_writes_apply_of_forall_not_mem _ _ _ _ (by simpa using hy), hout y hy]
  · iexact H

/-- The whole rectangle of a shape, at its own place, is every index in order. -/
theorem whole_emb {s : Shape} {off : Fin s.rank → ℕ} {inb} (h : ∀ a, off a = 0) (j : (Rect.unit (s := s) off s.size inb).shape.Idx) :
    (Rect.unit (s := s) off s.size inb).emb j = j :=
  Rect.emb_eq_of_coords _ _ _ fun a => by simp [h a]

/-- A load of the whole buffer reads its contents. -/
theorem runs_load_whole (c : Dev nD) {s : Shape} {e : EltTy} {m : Memref sig .tc .vmem s e} {off : Fin s.rank → ℕ} {inb}
    {hl : m.view.LoadsAt (Rect.unit (s := s) off s.size inb).toLoadRect} {Q : (s.Idx → Elt F e) → sProp 𝕄} {q : PosShare TreeShare}
    {X : s.Idx → Elt F e} (h : ∀ a, off a = 0) :
    held c m q X ⊢ iprop((held c m q X -∗ Q X) -∗
      runs c (Prog.lift (.load m (Rect.unit (s := s) off s.size inb).toLoadRect hl)) Q) := by
  have e : X = fun j => X ((Rect.unit (s := s) off s.size inb).emb j) := funext fun j => by rw [whole_emb h]
  have := runs_load (Q := Q) (hl := hl) (q := q) (X := X) c
  rw [← e] at this
  exact this

/-- A store over the whole buffer leaves what was written. -/
theorem runs_store_whole (c : Dev nD) {s : Shape} {e : EltTy} {m : Memref sig .tc .vmem s e} {off : Fin s.rank → ℕ} {inb}
    {w : s.Idx → Elt F e} {hx : (m.access (Rect.unit (s := s) off s.size inb)).Stores Finset.univ}
    {hm : Finset.univ = Finset.univ ∨ ∀ a, (Rect.unit (s := s) off s.size inb).stride a = 1} {Q : PUnit → sProp 𝕄}
    {X : s.Idx → Elt F e} (h : ∀ a, off a = 0) :
    held c m fullShare X ⊢ iprop((held c m fullShare w -∗ Q ⟨⟩) -∗
      runs c (Prog.lift (.store m (Rect.unit (s := s) off s.size inb) w Finset.univ hx hm)) Q) :=
  runs_store c w (fun j => by rw [whole_emb h]) fun y hy =>
    absurd (whole_emb (inb := inb) h y ▸ (Rect.unit (s := s) off s.size inb).toLoadRect.idx_mem y) hy

/-- The best of each lane after the chunks `k` to `k + n - 1` of a block. -/
def sweepVal (x : Vec F S10000x128 .f32) (v12 : IVec S200x128 32) (v13 v14 : BitVec 32) :
    (n k : ℕ) → n + k ≤ 50 → Best F → Best F
  | 0, _, _, s => s
  | n + 1, k, h, s => sweepVal x v12 v13 v14 n (k + 1) (shift_le h)
      (keep v12 v13 v14 (BitVec.ofNat 32 (200 * k)) (fun j => x ((chunk k (one_le h)).emb j)) s)

/-- The sweep reads the block and computes `sweepVal` of it. -/
theorem runs_sweep (c : Dev nD) (arg2 : Memref sig .tc .vmem S10000x128 .f32) (q : PosShare TreeShare) (x : Vec F S10000x128 .f32)
    (v12 : IVec S200x128 32) (v13 v14 : BitVec 32) (Q : Best F → sProp 𝕄) : ∀ (n k : ℕ) (h : n + k ≤ 50) (s : Best F),
    held c arg2 q x ⊢ iprop((held c arg2 q x -∗ Q (sweepVal x v12 v13 v14 n k h s)) -∗
      runs c (sweep arg2 v12 v13 v14 n k h s) Q)
  | 0, k, h, s => by
    unfold sweep sweepVal runs
    iintro H Hk
    simp only [wp_pure]
    imodintro
    iapply Hk $$ H
  | n + 1, k, h, s => by
    unfold sweep sweepVal runs
    iintro H Hk
    rw [wp_bind]
    iapply (runs_load c) $$ H
    iintro H
    iapply (runs_sweep c arg2 q x v12 v13 v14 Q n (k + 1) (shift_le h) _) $$ H
    iexact Hk

end Cert.KernelIdeal.Hand
-- ==== Proof.Passes.lean ====
/- What each of the four passes of the body reads and leaves. -/
module

public import proofs.«01_k».proof.Proof.Rules
public import Idealize.ShloMosaic.Lib.ValueLayout
public import Idealize.ShloMosaic.Lib.Pipeline.Value

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal.Gen

variable {F : FTy → Type} [FloatOps F]

local notation "𝕄" => MT nD τ sig Unit (Elt F) ℕ (UR sig nD τ) ℕ

/-- What the second pass leaves at one place of a block: the chosen value in the lane's chosen row,
    the not-chosen value of the weight there everywhere else. -/
def painted (x : Vec F S10000x128 .f32) (v14 : BitVec 32) (idx : Vec F S1x128 .i32) (vc : Vec F S1x128 .f32) :
    Vec F S10000x128 .f32 := fun i =>
  Scalar.select
    (IntOp.cmpi .eq (BitVec.ofNat 32 ((i 0).val % 200))
      (IntOp.subi (idx (ix2 (n0 := 1) (n1 := 128) 0 (i 1))) (Scalar.addi v14 (BitVec.ofNat 32 (200 * ((i 0).val / 200))))))
    (vc (ix2 (n0 := 1) (n1 := 128) 0 (i 1)))
    (FloatOps.divf (x i) (FloatOps.maximumf (FloatOps.subf (Scalar.ofBits .f32 0x3F800000#32) (x i)) (Scalar.ofBits .f32 0x2EDBE6FF#32)))

/-- A chunk of what the second pass leaves is what it writes over that chunk. -/
theorem painted_chunk (x : Vec F S10000x128 .f32) (v14 : BitVec 32) (idx : Vec F S1x128 .i32) (vc : Vec F S1x128 .f32)
    (k : ℕ) (h : k + 1 ≤ 50) (j : S200x128.Idx) :
    painted x v14 idx vc ((chunk k h).emb j)
      = spread rowNo v14 (BitVec.ofNat 32 (200 * k)) idx vc (fun j => x ((chunk k h).emb j)) j := by
  have h0 : (((chunk k h).emb j) 0).val = 200 * k + (j 0).val := by
    show 200 * k + 1 * (j 0).val = _
    omega
  have h1 : ((chunk k h).emb j) 1 = j 1 := Fin.ext (by show 0 + 1 * (j 1).val = _; omega)
  have hj : (j 0).val < 200 := (j 0).isLt
  have e1 : (((chunk k h).emb j) 0).val % 200 = (j 0).val := by omega
  have e2 : (((chunk k h).emb j) 0).val / 200 = k := by omega
  unfold painted spread
  rw [e1, e2, h1]
  simp only [shapeCast_self]
  rw [select_apply]
  congr 1
  · show _ = IntOp.cmpi _ _ _
    congr 1
    · exact (iota_single_apply .tc S200x128 32 0 _ j).symm
    · rw [eq_ix2 (n0 := 200) (n1 := 128) j]
      exact (broadcastTo_1b_ab_apply (a := 200) (b := 128)
        (subi idx (broadcast S1x128 (Scalar.addi v14 (BitVec.ofNat 32 (200 * k))))) broadcasts_S1x128_S200x128 (j 0) (j 1)).symm
  · rw [eq_ix2 (n0 := 200) (n1 := 128) j]
    exact (broadcastTo_1b_ab_apply (a := 200) (b := 128) _ _ _ _).symm

/-- The second pass from chunk `k` to the end, the rows before `k` being done already. -/
theorem runs_paint (c : Dev nD) (arg2 arg3 : Memref sig .tc .vmem S10000x128 .f32) (q : PosShare TreeShare)
    (x : Vec F S10000x128 .f32) (v14 : BitVec 32) (idx : Vec F S1x128 .i32) (vc : Vec F S1x128 .f32) (Q : PUnit → sProp 𝕄) :
    ∀ (n k : ℕ) (h : n + k ≤ 50) (hn : n + k = 50) (y : Vec F S10000x128 .f32)
      (hy : ∀ i, (i 0).val < 200 * k → y i = painted x v14 idx vc i),
    iprop(held c arg2 q x ∗ held c arg3 fullShare y) ⊢
      iprop(((held c arg2 q x ∗ held c arg3 fullShare (painted x v14 idx vc)) -∗ Q ⟨⟩) -∗
        runs c (paint arg2 arg3 rowNo v14 idx vc n k h) Q)
  | 0, k, h, hn, y, hy => by
    have e : y = painted x v14 idx vc := funext fun i => hy i (by
      have : (i 0).val < 10000 := (i 0).isLt
      omega)
    subst e
    unfold paint runs
    iintro H Hk
    simp only [wp_pure]
    imodintro
    iapply Hk $$ H
  | n + 1, k, h, hn, y, hy => by
    unfold paint runs
    iintro ⟨H2, H3⟩ Hk
    rw [wp_bind]
    iapply (runs_load c) $$ H2
    iintro H2
    rw [wp_bind]
    iapply (runs_load c) $$ H3
    iintro H3
    rw [wp_bind]
    have hy' : ∀ i, (i 0).val < 200 * (k + 1) →
        (if i ∈ (chunk k (one_le h)).set then painted x v14 idx vc i else y i) = painted x v14 idx vc i := fun i hi => by
      by_cases hm : i ∈ (chunk k (one_le h)).set
      · exact if_pos hm
      · rw [if_neg hm]
        refine hy i ?_
        by_contra hge
        refine hm (Rect.mem_set_unit.mpr fun a => ?_)
        fin_cases a
        · exact ⟨show 200 * k ≤ (i 0).val by omega, show (i 0).val < 200 * k + 200 by omega⟩
        · exact ⟨Nat.zero_le _, show (i 1).val < 0 + 128 by have : (i 1).val < 128 := (i 1).isLt; omega⟩
    iapply (runs_store c (fun i => if i ∈ (chunk k (one_le h)).set then painted x v14 idx vc i else y i)
      (fun j => (if_pos ((chunk k (one_le h)).toLoadRect.idx_mem j)).trans (painted_chunk x v14 idx vc k (one_le h) j))
      (fun i hi => if_neg hi)) $$ H3
    iintro H3
    iapply (runs_paint c arg2 arg3 q x v14 idx vc Q n (k + 1) (shift_le h) (by omega) _ hy') $$ [H2 H3]
    · isplitl [H2]
      · iexact H2
      · iexact H3
    iexact Hk

/-- The offset of a whole-buffer access is zero on each axis. -/
theorem off_zero : ∀ a : Fin 2, (![0, 0] : Fin 2 → ℕ) a = 0 := by decide

/-- The second pass leaves the block painted. -/
theorem runs_pass1 (c : Dev nD) (arg2 arg3 : Memref sig .tc .vmem S10000x128 .f32) (arg8 : Memref sig .tc .vmem S1x128 .i32)
    (arg9 : Memref sig .tc .vmem S1x128 .f32) (q : PosShare TreeShare) (x y : Vec F S10000x128 .f32) (v14 : BitVec 32)
    (idx : Vec F S1x128 .i32) (vc : Vec F S1x128 .f32) (Q : PUnit → sProp 𝕄) :
    iprop(held c arg2 q x ∗ held c arg3 fullShare y ∗ held c arg8 fullShare idx ∗ held c arg9 fullShare vc) ⊢
      iprop(((held c arg2 q x ∗ held c arg3 fullShare (painted x v14 idx vc) ∗ held c arg8 fullShare idx ∗ held c arg9 fullShare vc)
          -∗ Q ⟨⟩) -∗ runs c (pass1 arg2 arg3 arg8 arg9 rowNo v14) Q) := by
  unfold pass1 runs
  iintro ⟨H2, H3, H8, H9⟩ Hk
  rw [wp_bind]
  iapply (runs_load_whole c off_zero) $$ H8
  iintro H8
  rw [wp_bind]
  iapply (runs_load_whole c off_zero) $$ H9
  iintro H9
  iapply (runs_paint c arg2 arg3 q x v14 idx vc Q 50 0 _ rfl y (fun i hi => absurd hi (by omega))) $$ [H2 H3]
  · isplitl [H2]
    · iexact H2
    · iexact H3
  iintro ⟨H2, H3⟩
  iapply Hk
  isplitl [H2]; · iexact H2
  isplitl [H3]; · iexact H3
  isplitl [H8]; · iexact H8
  iexact H9

/-- The carried best before any block. -/
def best0 : Best F :=
  (broadcast S200x128 (Scalar.ofBits .f32 0xFF800000#32), broadcast S200x128 0#32, broadcast S200x128 (Scalar.ofBits .f32 0x00000000#32))

/-- The carried best in its three scratch buffers. -/
abbrev carries (c : Dev nD) (arg5 : Memref sig .tc .vmem S200x128 .f32) (arg6 : Memref sig .tc .vmem S200x128 .i32)
    (arg7 : Memref sig .tc .vmem S200x128 .f32) (s : Best F) : sProp 𝕄 :=
  iprop(held c arg5 fullShare s.1 ∗ held c arg6 fullShare s.2.1 ∗ held c arg7 fullShare s.2.2)

/-- The start leaves the initial best. -/
theorem runs_start (c : Dev nD) (arg5 : Memref sig .tc .vmem S200x128 .f32) (arg6 : Memref sig .tc .vmem S200x128 .i32)
    (arg7 : Memref sig .tc .vmem S200x128 .f32) (s : Best F) (Q : PUnit → sProp 𝕄) :
    carries c arg5 arg6 arg7 s ⊢ iprop((carries c arg5 arg6 arg7 best0 -∗ Q ⟨⟩) -∗ runs c (start arg5 arg6 arg7) Q) := by
  unfold start runs
  simp only [shapeCast_self]
  iintro ⟨H5, H6, H7⟩ Hk
  rw [wp_bind]
  iapply (runs_load_whole c off_zero) $$ H5
  iintro H5
  rw [wp_bind]
  iapply (runs_store_whole c off_zero) $$ H5
  iintro H5
  rw [wp_bind]
  iapply (runs_load_whole c off_zero) $$ H6
  iintro H6
  rw [wp_bind]
  iapply (runs_store_whole c off_zero) $$ H6
  iintro H6
  rw [wp_bind]
  iapply (runs_load_whole c off_zero) $$ H7
  iintro H7
  rw [wp_bind]
  iapply (runs_store_whole c off_zero) $$ H7
  iintro H7
  simp only [wp_pure]
  imodintro
  iapply Hk
  isplitl [H5]; · iexact H5
  isplitl [H6]; · iexact H6
  iexact H7

/-- The first pass leaves the best after the block's fifty chunks. -/
theorem runs_pass0 (c : Dev nD) (arg2 : Memref sig .tc .vmem S10000x128 .f32) (arg5 : Memref sig .tc .vmem S200x128 .f32)
    (arg6 : Memref sig .tc .vmem S200x128 .i32) (arg7 : Memref sig .tc .vmem S200x128 .f32) (q : PosShare TreeShare)
    (x : Vec F S10000x128 .f32) (v12 : IVec S200x128 32) (v13 v14 : BitVec 32) (s : Best F) (Q : PUnit → sProp 𝕄) :
    iprop(held c arg2 q x ∗ carries c arg5 arg6 arg7 s) ⊢
      iprop(((held c arg2 q x ∗ carries c arg5 arg6 arg7 (sweepVal x v12 v13 v14 50 0 (Nat.le_refl 50) s)) -∗ Q ⟨⟩) -∗
        runs c (pass0 arg2 arg5 arg6 arg7 v12 v13 v14) Q) := by
  unfold pass0 runs
  simp only [shapeCast_self]
  iintro ⟨H2, H5, H6, H7⟩ Hk
  rw [wp_bind]
  iapply (runs_load_whole c off_zero) $$ H5
  iintro H5
  rw [wp_bind]
  iapply (runs_load_whole c off_zero) $$ H6
  iintro H6
  rw [wp_bind]
  iapply (runs_load_whole c off_zero) $$ H7
  iintro H7
  rw [wp_bind]
  iapply (runs_sweep c arg2 q x) $$ H2
  iintro H2
  rw [wp_bind]
  iapply (runs_load_whole c off_zero) $$ H5
  iintro H5
  rw [wp_bind]
  iapply (runs_store_whole c off_zero) $$ H5
  iintro H5
  rw [wp_bind]
  iapply (runs_load_whole c off_zero) $$ H6
  iintro H6
  rw [wp_bind]
  iapply (runs_store_whole c off_zero) $$ H6
  iintro H6
  rw [wp_bind]
  iapply (runs_load_whole c off_zero) $$ H7
  iintro H7
  rw [wp_bind]
  iapply (runs_store_whole c off_zero) $$ H7
  iintro H7
  simp only [wp_pure]
  imodintro
  iapply Hk
  isplitl [H2]; · iexact H2
  isplitl [H5]; · iexact H5
  isplitl [H6]; · iexact H6
  iexact H7

/-- The slots that hold their lane's largest score. -/
def topMask (s : Best F) : IVec S200x128 1 :=
  cmpf .oeq s.1 (broadcastTo S200x128
    (shapeCast S1x128 (multiReduction .maximumf [0] S128 s.1 0xFF800000#32 reduces_S200x128_S128 (.inl rfl) rfl) shapeCasts_S128_S1x128)
    broadcasts_S1x128_S200x128)

/-- The row chosen in each lane: the least among the slots with the largest score. -/
def chosenRow (s : Best F) : IVec S1x128 32 :=
  shapeCast S1x128 (multiReductionI .minsi [0] S128
    (select (topMask s) (addi s.2.1 rowNo) (broadcast S200x128 2147483647#32)) 2147483647#32 reduces_S200x128_S128 rfl) shapeCasts_S128_S1x128

/-- The weight of the row chosen in each lane. -/
def chosenWeight (s : Best F) : FVec F S1x128 .f32 :=
  shapeCast S1x128 (multiReduction .maximumf [0] S128
    (select (andi (topMask s) (cmpi .eq (addi s.2.1 rowNo) (broadcastTo S200x128 (chosenRow s) broadcasts_S1x128_S200x128)))
      s.2.2 (broadcast S200x128 (Scalar.ofBits .f32 0xBF800000#32)))
    0xFF800000#32 reduces_S200x128_S128 (.inl rfl) rfl) shapeCasts_S128_S1x128

/-- The output value of the row chosen in each lane. -/
def chosenValue (s : Best F) : FVec F S1x128 .f32 :=
  divf (subf (broadcast S1x128 (Scalar.ofBits .f32 0x3F800000#32)) (chosenWeight s))
    (maximumf (chosenWeight s) (broadcast S1x128 (Scalar.ofBits .f32 0x2EDBE6FF#32)))

/-- The fold leaves the chosen rows (twice) and the chosen values. -/
theorem runs_fold (c : Dev nD) (arg4 : Memref sig .tc .vmem S1x128 .i32) (arg5 : Memref sig .tc .vmem S200x128 .f32)
    (arg6 : Memref sig .tc .vmem S200x128 .i32) (arg7 : Memref sig .tc .vmem S200x128 .f32)
    (arg8 : Memref sig .tc .vmem S1x128 .i32) (arg9 : Memref sig .tc .vmem S1x128 .f32) (s : Best F)
    (y4 y8 : Vec F S1x128 .i32) (y9 : Vec F S1x128 .f32) (Q : PUnit → sProp 𝕄) :
    iprop(carries c arg5 arg6 arg7 s ∗ held c arg4 fullShare y4 ∗ held c arg8 fullShare y8 ∗ held c arg9 fullShare y9) ⊢
      iprop(((carries c arg5 arg6 arg7 s ∗ held c arg4 fullShare (chosenRow s : Vec F S1x128 .i32)
          ∗ held c arg8 fullShare (chosenRow s : Vec F S1x128 .i32) ∗ held c arg9 fullShare (chosenValue s : Vec F S1x128 .f32)) -∗ Q ⟨⟩) -∗
        runs c (fold arg4 arg5 arg6 arg7 arg8 arg9 rowNo) Q) := by
  unfold fold runs
  simp only [shapeCast_self]
  iintro ⟨⟨H5, H6, H7⟩, H4, H8, H9⟩ Hk
  rw [wp_bind]
  iapply (runs_load_whole c off_zero) $$ H5
  iintro H5
  rw [wp_bind]
  iapply (runs_load_whole c off_zero) $$ H6
  iintro H6
  rw [wp_bind]
  iapply (runs_load_whole c off_zero) $$ H7
  iintro H7
  rw [wp_bind]
  iapply (runs_load_whole c off_zero) $$ H8
  iintro H8
  rw [wp_bind]
  iapply (runs_store_whole c off_zero) $$ H8
  iintro H8
  rw [wp_bind]
  iapply (runs_load_whole c off_zero) $$ H9
  iintro H9
  rw [wp_bind]
  iapply (runs_store_whole c off_zero) $$ H9
  iintro H9
  rw [wp_bind]
  iapply (runs_load_whole c off_zero) $$ H4
  iintro H4
  rw [wp_bind]
  iapply (runs_store_whole c off_zero) $$ H4
  iintro H4
  simp only [wp_pure]
  imodintro
  iapply Hk
  isplitl [H5 H6 H7]
  · isplitl [H5]; · iexact H5
    isplitl [H6]; · iexact H6
    iexact H7
  isplitl [H4]; · iexact H4
  isplitl [H8]; · iexact H8
  iexact H9

end Cert.KernelIdeal.Hand
-- ==== Proof.Where.lean ====
/- Which passes run at a grid point, and when the two output windows are written back. -/
module

public import proofs.«01_k».proof.Proof.Passes
public import Idealize.ShloMosaic.Lib.Pipeline.TableIdle

@[expose] public section

set_option synthInstance.maxSize 4096
set_option maxRecDepth 16384

noncomputable section

namespace Cert.KernelIdeal.Hand

open Idealize.ShloMosaic Idealize.ShloMosaic.TcCoe Idealize.ShloMosaic.Tactic
open Cert.KernelIdeal.Gen

/-- There are twenty grid points. -/
theorem lt20 (t : Fin cfg0.N) : t.val < 20 := lt_of_lt_of_eq t.isLt N_0

/-- The phase of a point. -/
theorem coord0 (t : Fin cfg0.N) : (grid0.coords t 0).val = t.val / 10 := by
  have e0 : (grid0.coords t 0).val = t.val / 10 % 2 := Pipeline.Grid.coords_val t 0 (by decide) rfl
  have := lt20 t
  omega

/-- The block of a point. -/
theorem coord1 (t : Fin cfg0.N) : (grid0.coords t 1).val = t.val % 10 := by
  have e0 : (grid0.coords t 1).val = t.val / 1 % 10 := Pipeline.Grid.coords_val t 1 (by decide) rfl
  omega

/-- The start runs at the first point only. -/
theorem cond1_iff (t : Fin cfg0.N) : cond1 (grid0.coords t) = 1#1 ↔ t.val = 0 := by
  have ht := lt20 t
  unfold cond1
  rw [coord0, coord1]
  generalize t.val = n at ht
  interval_cases n <;> decide

/-- The first pass runs at the first ten points. -/
theorem cond2_iff (t : Fin cfg0.N) : cond2 (grid0.coords t) = 1#1 ↔ t.val < 10 := by
  have ht := lt20 t
  unfold cond2
  rw [coord0]
  generalize t.val = n at ht
  interval_cases n <;> decide

/-- The fold runs at point ten only. -/
theorem cond3_iff (t : Fin cfg0.N) : k0_cond3 (grid0.coords t) = 1#1 ↔ t.val = 10 := by
  have ht := lt20 t
  unfold k0_cond3
  rw [coord0, coord1]
  generalize t.val = n at ht
  interval_cases n <;> decide

/-- The second pass runs from point ten on. -/
theorem cond4_iff (t : Fin cfg0.N) : k0_cond4 (grid0.coords t) = 1#1 ↔ 10 ≤ t.val := by
  have ht := lt20 t
  unfold k0_cond4
  rw [coord0]
  generalize t.val = n at ht
  interval_cases n <;> decide

/-- The big output is written back from point ten on. -/
theorem flush_big : ∀ t : Fin cfg0.N, (cfg0.win 1).flush t = true ↔ 10 ≤ t.val := by
  show ∀ t : Fin grid0.N, win0_1.flush t = true ↔ 10 ≤ t.val
  decide

/-- The big output is not touched before point ten. -/
theorem idle_big (t : Fin cfg0.N) : cfg0.idle 1 (grid0.coords t) = true ↔ t.val < 10 := by
  show (!(decide (k0_cond4 (grid0.coords t) = 1#1))) = true ↔ _
  have := cond4_iff t
  rw [Bool.not_eq_true', decide_eq_false_iff_not, this]
  omega

/-- The small output is touched at point ten only. -/
theorem idle_small (t : Fin cfg0.N) : cfg0.idle 2 (grid0.coords t) = true ↔ t.val ≠ 10 := by
  show (!(decide (k0_cond3 (grid0.coords t) = 1#1))) = true ↔ _
  have := cond3_iff t
  rw [Bool.not_eq_true', decide_eq_false_iff_not, this]

/-- The small output is written back after the last point only. -/
theorem flush_small (t : Fin cfg0.N) : (cfg0.win 2).flush t = true ↔ t.val = 19 := by
  have := lt20 t
  rw [flush0_2]
  omega

/-- Once point ten has written the small output, its buffer holds what was written. -/
theorem fresh_small (n : ℕ) (h : 10 < n) (h' : n < 20) : cfg0.fresh 2 n = false := by
  induction n with
  | zero => omega
  | succ n ih =>
    have hn : n < cfg0.N := by have : cfg0.N = 20 := N_0; omega
    rw [Pipeline.Cfg.fresh_succ cfg0 2 n hn]
    have hf : (cfg0.win 2).flush ⟨n, hn⟩ = false := by
      rw [Bool.eq_false_iff, ne_eq, flush_small]
      show ¬ n = 19
      omega
    rw [hf, Bool.false_or]
    by_cases h10 : n = 10
    · have : cfg0.idle 2 (grid0.coords ⟨n, hn⟩) = false := by
        rw [Bool.eq_false_iff, ne_eq, idle_small]
        exact fun hne => hne h10
      rw [show cfg0.idle 2 (cfg0.grid.coords ⟨n, hn⟩) = false from this, Bool.false_and]
    · rw [ih (by omega) (by omega), Bool.and_false]

end Cert.KernelIdeal.Hand
-- ==== Proof.Region.lean ====
/- The region of the kernel: what each point leaves, and the launch. -/
module

public import proofs.«01_k».proof.Proof.Where

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of weights the body sees at point `t`. -/
abbrev weights (c : Dev nD) (t : Fin cfg0.N) : Vec F S10000x128 .f32 := iblk m c 0 t

/-- The carried best before point `n` of the first phase. -/
def bestAt (c : Dev nD) : ℕ → Best F
  | 0 => best0
  | n + 1 =>
    if h : n < cfg0.N then
      sweepVal (weights m c ⟨n, h⟩) counter (base (grid0.coords ⟨n, h⟩)) (base (grid0.coords ⟨n, h⟩)) 50 0 (Nat.le_refl 50) (bestAt c n)
    else bestAt c n

/-- The best after the whole first phase. -/
abbrev final (c : Dev nD) : Best F := bestAt m c 10

/-- The five scratch buffers. -/
abbrev sc0 : Memref sig .tc .vmem S200x128 .f32 := Memref.whole cc0_scratch0
/-- The chunk scratch. -/
abbrev sc1 : Memref sig .tc .vmem S200x128 .i32 := Memref.whole cc0_scratch1
/-- The weight scratch. -/
abbrev sc2 : Memref sig .tc .vmem S200x128 .f32 := Memref.whole cc0_scratch2
/-- The chosen-row scratch. -/
abbrev sc3 : Memref sig .tc .vmem S1x128 .i32 := Memref.whole cc0_scratch3
/-- The chosen-value scratch. -/
abbrev sc4 : Memref sig .tc .vmem S1x128 .f32 := Memref.whole cc0_scratch4

/-- The scratch at anything, as the launch hands it over. -/
theorem launch_scratch (c : Dev nD) :
    (Pipeline.ΦA spec0 c : sProp 𝕄)
      = iprop(iprop((∃ d, held c sc0 fullShare d) ∗ (∃ d, held c sc1 fullShare d) ∗ (∃ d, held c sc2 fullShare d)
          ∗ (∃ d, held c sc3 fullShare d) ∗ (∃ d, held c sc4 fullShare d)) ∗ (∃ r, prngReg c r)) := by
  unfold Pipeline.ΦA
  rw [scopedRest0_eq]
  simp only [held, sc0, sc1, sc2, sc3, sc4, owns_whole]
  try rfl

/-- What the scratch holds before point `n`: anything before the first; the carried best up to point ten;
    from then on the chosen rows and values as well. -/
def scratch (c : Dev nD) (n : ℕ) : sProp 𝕄 :=
  if n = 0 then Pipeline.ΦA spec0 c
  else if n ≤ 10 then
    iprop((carries c sc0 sc1 sc2 (bestAt m c n) ∗ (∃ d, held c sc3 fullShare d) ∗ (∃ d, held c sc4 fullShare d)) ∗ (∃ r, prngReg c r))
  else
    iprop((carries c sc0 sc1 sc2 (final m c) ∗ held c sc3 fullShare (chosenRow (final m c) : Vec F S1x128 .i32)
      ∗ held c sc4 fullShare (chosenValue (final m c) : Vec F S1x128 .f32)) ∗ (∃ r, prngReg c r))

/-- What the second phase leaves of block `t`. -/
abbrev outBlock (c : Dev nD) (t : Fin cfg0.N) : Vec F S10000x128 .f32 :=
  painted (weights m c t) (base (grid0.coords t)) (chosenRow (final m c)) (chosenValue (final m c))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock m c t
    | ⟨2, _⟩ => (chosenRow (final m c) : Vec F S1x128 .i32)
  Φ t := scratch m c t.val
  q _ := fullShare
  owed _ := 0

/-- The arrays are as the region finds them. -/
theorem A_eq (c : Dev nD) (w : Fin cfg0.W) : (dats m 0 c).A w = V m c (Pipeline.arrRef spec0 w) := by
  dsimp only [dats]

/-- The input's buffer keeps its block. -/
theorem after_in (c : Dev nD) (t : Fin cfg0.N) : (dats m 0 c).after 0 t = iblk m c 0 t := by dsimp only [dats]

/-- The big output's buffer ends painted. -/
theorem after_big (c : Dev nD) (t : Fin cfg0.N) : (dats m 0 c).after 1 t = outBlock m c t := by dsimp only [dats]

/-- The small output's buffer ends at the chosen rows. -/
theorem after_small (c : Dev nD) (t : Fin cfg0.N) :
    (dats m 0 c).after 2 t = (chosenRow (final m c) : Vec F S1x128 .i32) := by dsimp only [dats]

/-- The input's buffer holds its block when the body starts. -/
theorem before_in (c : Dev nD) (t : Fin cfg0.N) (d) : (dats m 0 c).before 0 t d = iblk m c 0 t :=
  before0_0_of m (dats m 0 c) (A_eq m c 0) (after_in m c) t d

/-- After point ten the small output's buffer holds the chosen rows. -/
theorem before_small (c : Dev nD) (t : Fin cfg0.N) (h : 10 < t.val) (d) :
    (dats m 0 c).before 2 t d = (chosenRow (final m c) : Vec F S1x128 .i32) := by
  rw [(dats m 0 c).before_out_traj 2 rfl (fun _ _ => rfl) (fun _ _ _ _ => by rw [after_small, after_small]) t.val t rfl d,
    fresh_small t.val h (lt20 t), if_neg Bool.false_ne_true, after_small]

/-- The current buffer of each window. -/
abbrev st0 (t : Fin cfg0.N) : Memref sig .tc .vmem S10000x128 .f32 := win0_0.stage (cfg0.slots t 0)
/-- The big output's buffer. -/
abbrev st1 (t : Fin cfg0.N) : Memref sig .tc .vmem S10000x128 .f32 := win0_1.stage (cfg0.slots t 1)
/-- The small output's buffer. -/
abbrev st2 (t : Fin cfg0.N) : Memref sig .tc .vmem S1x128 .i32 := win0_2.stage (cfg0.slots t 2)

/-- The body at point `t`, as its four guarded passes over the current buffers. -/
theorem body_at (t : Fin cfg0.N) : (bodyAt0 t : Prog (TpuEff nD τ sig (Elt F) Λ₀ .tc) PUnit) = (do
    if h1 : cond1 (grid0.coords t) = 1#1 then start sc0 sc1 sc2 else pure ⟨⟩
    if h2 : cond2 (grid0.coords t) = 1#1 then
      pass0 (st0 t) sc0 sc1 sc2 counter (base (grid0.coords t)) (base (grid0.coords t)) else pure ⟨⟩
    if h3 : k0_cond3 (grid0.coords t) = 1#1 then fold (st2 t) sc0 sc1 sc2 sc3 sc4 rowNo else pure ⟨⟩
    if h4 : k0_cond4 (grid0.coords t) = 1#1 then pass1 (st0 t) (st1 t) sc3 sc4 rowNo (base (grid0.coords t)) else pure ⟨⟩
    pure ⟨⟩) := by
  unfold bodyAt0
  rw [body_eq]
  unfold body
  rfl

/-- The row of the body in the region's table is the body. -/
theorem table_row (t : Fin cfg0.N) :
    defs₀ (F := F) .tc cfg0.body (cfg0.bodyArgs t (cfg0.slots t)) = bodyAt0 t := by
  unfold defs₀
  rw [Defs.onTc_tc]

/-- What the body is called with at point `t`. -/
def bodyPre (c : Dev nD) (t : Fin cfg0.N) : sProp 𝕄 :=
  iprop((dats m 0 c).Φ t.castSucc ∗ (dats m 0 c).owesAt () t.castSucc
    ∗ (∃ d, held c (st0 t) fullShare ((dats m 0 c).before 0 t d))
    ∗ (∃ d, held c (st1 t) fullShare ((dats m 0 c).before 1 t d))
    ∗ (∃ d, held c (st2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

/-- The input's buffer is left as it was. -/
theorem leaves_in (c : Dev nD) (t : Fin cfg0.N) : (dats m 0 c).leavesExact 0 t = held c (st0 t) fullShare (weights m c t) := by
  have hi : cfg0.idle 0 (cfg0.grid.coords t) = false := rfl
  unfold Dat.leavesExact
  rw [hi, after_in]

/-- Before point ten the big output's buffer is left as found. -/
theorem leaves_big_idle (c : Dev nD) (t : Fin cfg0.N) (h : t.val < 10) :
    (dats m 0 c).leavesExact 1 t = iprop(∃ d, held c (st1 t) fullShare ((dats m 0 c).before 1 t d)) :=
  (dats m 0 c).leavesExact_idle 1 t ((idle_big t).mpr h)
    (by rw [Bool.eq_false_iff, ne_eq, flush_big]; omega)

/-- From point ten on it is left painted. -/
theorem leaves_big (c : Dev nD) (t : Fin cfg0.N) (h : 10 ≤ t.val) :
    (dats m 0 c).leavesExact 1 t = held c (st1 t) fullShare (outBlock m c t) := by
  have hi : cfg0.idle 1 (cfg0.grid.coords t) = false := by
    rw [Bool.eq_false_iff, ne_eq, show cfg0.grid.coords t = grid0.coords t from rfl, idle_big]; omega
  unfold Dat.leavesExact
  rw [hi, after_big]

/-- The small output's buffer is left as found at a point that neither writes nor sends it. -/
theorem leaves_small_idle (c : Dev nD) (t : Fin cfg0.N) (h : t.val ≠ 10) (h' : t.val ≠ 19) :
    (dats m 0 c).leavesExact 2 t = iprop(∃ d, held c (st2 t) fullShare ((dats m 0 c).before 2 t d)) :=
  (dats m 0 c).leavesExact_idle 2 t ((idle_small t).mpr h)
    (by rw [Bool.eq_false_iff, ne_eq, flush_small]; omega)

/-- After point ten, holding the chosen rows is what is asked. -/
theorem leaves_small (c : Dev nD) (t : Fin cfg0.N) (h : 10 ≤ t.val) :
    held c (st2 t) fullShare (chosenRow (final m c) : Vec F S1x128 .i32) ⊢ (dats m 0 c).leavesExact 2 t := by
  by_cases h10 : t.val = 10
  · have hi : cfg0.idle 2 (cfg0.grid.coords t) = false := by
      rw [Bool.eq_false_iff, ne_eq, show cfg0.grid.coords t = grid0.coords t from rfl, idle_small]; omega
    unfold Dat.leavesExact
    rw [hi, after_small]
  · by_cases h19 : t.val = 19
    · have hi : cfg0.idle 2 (cfg0.grid.coords t) = true := (idle_small t).mpr h10
      have hf : (cfg0.win 2).flush t = true := (flush_small t).mpr h19
      unfold Dat.leavesExact
      rw [hi, hf, after_small]
    · rw [leaves_small_idle m c t h10 h19]
      iintro H
      iexists (chosenRow (final m c) : Vec F S1x128 .i32)
      rw [before_small m c t (by omega)]
      iexact H

/-- The body at the points of the first phase: the carried best moves on by the point's block. -/
theorem runs_first (c : Dev nD) (t : Fin cfg0.N) (h : t.val < 10) :
    bodyPre m c t ⊢ runs c (bodyAt0 t) (fun _ => bodyPost m c t) := by
  have hb : bestAt m c (t.val + 1) = sweepVal (weights m c t) counter (base (grid0.coords t)) (base (grid0.coords t)) 50 0
      (Nat.le_refl 50) (bestAt m c t.val) := dif_pos t.isLt
  unfold bodyPre bodyPost
  rw [leaves_in, leaves_big_idle m c t h, leaves_small_idle m c t (by omega) (by omega),
    show (dats m 0 c).owesAt () t.succ = (dats m 0 c).owesAt () t.castSucc from rfl,
    show (dats m 0 c).Φ t.succ = scratch m c (t.val + 1) from rfl,
    show (dats m 0 c).Φ t.castSucc = scratch m c t.val from rfl, body_at]
  simp only [before_in]
  have hs : scratch m c (t.val + 1) = iprop((carries c sc0 sc1 sc2 (bestAt m c (t.val + 1)) ∗ (∃ d, held c sc3 fullShare d)
      ∗ (∃ d, held c sc4 fullShare d)) ∗ (∃ r, prngReg c r)) := by
    unfold scratch
    rw [if_neg (by omega), if_pos (by omega)]
  rw [hs, hb]
  unfold runs
  have c2 := (cond2_iff t).mpr h
  have c3 : ¬ k0_cond3 (grid0.coords t) = 1#1 := fun h3 => by have := (cond3_iff t).mp h3; omega
  have c4 : ¬ k0_cond4 (grid0.coords t) = 1#1 := fun h4 => by have := (cond4_iff t).mp h4; omega
  by_cases h0 : t.val = 0
  · have c1 := (cond1_iff t).mpr h0
    simp only [dif_pos c1, dif_pos c2, dif_neg c3, dif_neg c4]
    rw [h0, show scratch m c 0 = Pipeline.ΦA spec0 c from if_pos rfl, launch_scratch,
      show bestAt m c 0 = best0 from rfl]
    iintro ⟨⟨⟨⟨%e5, H5⟩, ⟨%e6, H6⟩, ⟨%e7, H7⟩, H8, H9⟩, Hg⟩, Ho, ⟨%d0, H0⟩, H1, H2⟩
    rw [wp_bind]
    iapply (runs_start c sc0 sc1 sc2 (e5, e6, e7)) $$ [H5 H6 H7]
    · isplitl [H5]; · iexact H5
      isplitl [H6]; · iexact H6
      iexact H7
    iintro HB
    rw [wp_bind]
    iapply (runs_pass0 c (st0 t) sc0 sc1 sc2 fullShare (weights m c t)) $$ [H0 HB]
    · isplitl [H0]; · iexact H0
      iexact HB
    iintro ⟨H0, HB⟩
    simp only [wp_pure]
    imodintro
    isplitl [HB H8 H9 Hg]
    · isplitl [HB H8 H9]
      · isplitl [HB]; · iexact HB
        isplitl [H8]; · iexact H8
        iexact H9
      iexact Hg
    isplitl [Ho]; · iexact Ho
    isplitl [H0]; · iexact H0
    isplitl [H1]; · iexact H1
    iexact H2
  · have c1 : ¬ cond1 (grid0.coords t) = 1#1 := fun h1 => h0 ((cond1_iff t).mp h1)
    simp only [dif_neg c1, dif_pos c2, dif_neg c3, dif_neg c4]
    rw [show scratch m c t.val = iprop((carries c sc0 sc1 sc2 (bestAt m c t.val)
      ∗ (∃ d, held c sc3 fullShare d) ∗ (∃ d, held c sc4 fullShare d)) ∗ (∃ r, prngReg c r)) from by
        unfold scratch; rw [if_neg h0, if_pos (by omega)]]
    iintro ⟨⟨⟨HB, H8, H9⟩, Hg⟩, Ho, ⟨%d0, H0⟩, H1, H2⟩
    rw [wp_bind]
    iapply (runs_pass0 c (st0 t) sc0 sc1 sc2 fullShare (weights m c t)) $$ [H0 HB]
    · isplitl [H0]; · iexact H0
      iexact HB
    iintro ⟨H0, HB⟩
    simp only [wp_pure]
    imodintro
    isplitl [HB H8 H9 Hg]
    · isplitl [HB H8 H9]
      · isplitl [HB]; · iexact HB
        isplitl [H8]; · iexact H8
        iexact H9
      iexact Hg
    isplitl [Ho]; · iexact Ho
    isplitl [H0]; · iexact H0
    isplitl [H1]; · iexact H1
    iexact H2

/-- The body at the points of the second phase: the block is painted. -/
theorem runs_second (c : Dev nD) (t : Fin cfg0.N) (h : 10 ≤ t.val) :
    bodyPre m c t ⊢ runs c (bodyAt0 t) (fun _ => bodyPost m c t) := by
  unfold bodyPre bodyPost
  rw [leaves_in, leaves_big m c t h,
    show (dats m 0 c).owesAt () t.succ = (dats m 0 c).owesAt () t.castSucc from rfl,
    show (dats m 0 c).Φ t.succ = scratch m c (t.val + 1) from rfl,
    show (dats m 0 c).Φ t.castSucc = scratch m c t.val from rfl, body_at]
  simp only [before_in]
  have hs : scratch m c (t.val + 1) = iprop((carries c sc0 sc1 sc2 (final m c) ∗ held c sc3 fullShare (chosenRow (final m c) : Vec F S1x128 .i32)
      ∗ held c sc4 fullShare (chosenValue (final m c) : Vec F S1x128 .f32)) ∗ (∃ r, prngReg c r)) := by
    unfold scratch
    rw [if_neg (by omega), if_neg (by omega)]
  rw [hs]
  unfold runs
  have c1 : ¬ cond1 (grid0.coords t) = 1#1 := fun h1 => by have := (cond1_iff t).mp h1; omega
  have c2 : ¬ cond2 (grid0.coords t) = 1#1 := fun h2 => by have := (cond2_iff t).mp h2; omega
  have c4 := (cond4_iff t).mpr h
  by_cases h10 : t.val = 10
  · have c3 := (cond3_iff t).mpr h10
    simp only [dif_neg c1, dif_neg c2, dif_pos c3, dif_pos c4]
    rw [show scratch m c t.val = iprop((carries c sc0 sc1 sc2 (final m c)
      ∗ (∃ d, held c sc3 fullShare d) ∗ (∃ d, held c sc4 fullShare d)) ∗ (∃ r, prngReg c r)) from by
        unfold scratch; rw [if_neg (by omega), if_pos (by omega), h10]]
    iintro ⟨⟨⟨HB, ⟨%e8, H8⟩, ⟨%e9, H9⟩⟩, Hg⟩, Ho, ⟨%d0, H0⟩, ⟨%d1, H1⟩, ⟨%d2, H2⟩⟩
    rw [wp_bind]
    iapply (runs_fold c (st2 t) sc0 sc1 sc2 sc3 sc4 (final m c)) $$ [HB H2 H8 H9]
    · isplitl [HB]; · iexact HB
      isplitl [H2]; · iexact H2
      isplitl [H8]; · iexact H8
      iexact H9
    iintro ⟨HB, H2, H8, H9⟩
    rw [wp_bind]
    iapply (runs_pass1 c (st0 t) (st1 t) sc3 sc4 fullShare (weights m c t)) $$ [H0 H1 H8 H9]
    · isplitl [H0]; · iexact H0
      isplitl [H1]; · iexact H1
      isplitl [H8]; · iexact H8
      iexact H9
    iintro ⟨H0, H1, H8, H9⟩
    simp only [wp_pure]
    imodintro
    isplitl [HB H8 H9 Hg]
    · isplitl [HB H8 H9]
      · isplitl [HB]; · iexact HB
        isplitl [H8]; · iexact H8
        iexact H9
      iexact Hg
    isplitl [Ho]; · iexact Ho
    isplitl [H0]; · iexact H0
    isplitl [H1]; · iexact H1
    iapply (leaves_small m c t h) $$ H2
  · have c3 : ¬ k0_cond3 (grid0.coords t) = 1#1 := fun h3 => h10 ((cond3_iff t).mp h3)
    simp only [dif_neg c1, dif_neg c2, dif_neg c3, dif_pos c4]
    rw [show scratch m c t.val = iprop((carries c sc0 sc1 sc2 (final m c)
      ∗ held c sc3 fullShare (chosenRow (final m c) : Vec F S1x128 .i32)
      ∗ held c sc4 fullShare (chosenValue (final m c) : Vec F S1x128 .f32)) ∗ (∃ r, prngReg c r)) from by
        unfold scratch; rw [if_neg (by omega), if_neg (by omega)]]
    iintro ⟨⟨⟨HB, H8, H9⟩, Hg⟩, Ho, ⟨%d0, H0⟩, ⟨%d1, H1⟩, ⟨%d2, H2⟩⟩
    rw [before_small m c t (by omega), wp_bind]
    iapply (runs_pass1 c (st0 t) (st1 t) sc3 sc4 fullShare (weights m c t)) $$ [H0 H1 H8 H9]
    · isplitl [H0]; · iexact H0
      isplitl [H1]; · iexact H1
      isplitl [H8]; · iexact H8
      iexact H9
    iintro ⟨H0, H1, H8, H9⟩
    simp only [wp_pure]
    imodintro
    isplitl [HB H8 H9 Hg]
    · isplitl [HB H8 H9]
      · isplitl [HB]; · iexact HB
        isplitl [H8]; · iexact H8
        iexact H9
      iexact Hg
    isplitl [Ho]; · iexact Ho
    isplitl [H0]; · iexact H0
    isplitl [H1]; · iexact H1
    iapply (leaves_small m c t h) $$ H2

/-- The body meets its obligation at every point. -/
theorem body_meets (c : Dev nD) : BodyObligation (dats (F := F) m 0 c) (defs₀ (F := F)) Variants.none () Set.univ := fun t => by
  rw [bigSep_W0, bigSep_W0, table_row]
  exact triple_restated ((lt_or_ge t.val 10).elim (runs_first m c t) (runs_second m c t)) rfl .rfl fun _ => .rfl

/-- The launch's scratch is the invariant before the first point. -/
theorem scratch_in (c : Dev nD) : Pipeline.ΦA spec0 c ⊢ (dats m 0 c).Φ 0 := by
  rw [show (dats m 0 c).Φ 0 = scratch m c 0 from rfl, show scratch m c 0 = Pipeline.ΦA spec0 c from if_pos rfl]

/-- The invariant after the last point gives the scratch back. -/
theorem scratch_out (c : Dev nD) : (dats m 0 c).Φ (Fin.last cfg0.N) ⊢ Pipeline.ΦA spec0 c := by
  have hN : cfg0.N = 20 := N_0
  rw [show (dats m 0 c).Φ (Fin.last cfg0.N) = scratch m c cfg0.N from rfl, launch_scratch]
  unfold scratch
  rw [if_neg (by omega), if_neg (by omega)]
  iintro ⟨⟨⟨H5, H6, H7⟩, H8, H9⟩, Hg⟩
  isplitl [H5 H6 H7 H8 H9]
  · isplitl [H5]; · iexists _; iexact H5
    isplitl [H6]; · iexists _; iexact H6
    isplitl [H7]; · iexists _; iexact H7
    isplitl [H8]; · iexists _; iexact H8
    iexists _; iexact H9
  iexact Hg

set_option backward.isDefEq.respectTransparency.types false in
set_option maxHeartbeats 800000 in
/-- Every run of the program ends, with the pipeline's arrays at what its data says, the rest of memory as the
    host operations leave it, and every counter at zero. -/
theorem run_region : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_meets m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := scratch_in m) (hout := scratch_out m)

end Cert.KernelIdeal.Hand
-- ==== Proof.Arrays.lean ====
/- The arrays after the run, as functions of the argument array. -/
module

public import proofs.«01_k».proof.Proof.Region
public import Idealize.ShloMosaic.Lib.StableHlo.Run
public import Idealize.ShloMosaic.Lib.Claim

@[expose] public section

set_option synthInstance.maxSize 4096
set_option maxRecDepth 16384

noncomputable section

namespace Cert.KernelIdeal.Hand

open Idealize.ShloMosaic Idealize.ShloMosaic.TcCoe Idealize.ShloMosaic.Tactic
open Idealize.SL.Sem
open Idealize.ShloMosaic.ValueIdx
open Idealize.ShloMosaic.Pipeline (Dat Cfg Window)
open Cert.KernelIdeal.Gen

variable {F : FTy → Type} [FloatOps F]
variable (m : (ℓ : Loc nD τ sig) → Buf (Elt F) ℓ) (ρ : Dev nD → PrngReg)

/-- Which block each window is on at a point. -/
theorem at_in : ∀ t : Fin cfg0.N, win0_0.index t (0 : Fin 2) = t.val % 10 ∧ win0_0.index t (1 : Fin 2) = 0 :=
  (by decide +kernel : ∀ t : Fin grid0.N, _)
/-- The big output's block: the first one until point ten, then one after another. -/
theorem at_big : ∀ t : Fin cfg0.N, win0_1.index t (0 : Fin 2) = t.val - 10 ∧ win0_1.index t (1 : Fin 2) = 0 :=
  (by decide +kernel : ∀ t : Fin grid0.N, _)
/-- The small output has one block. -/
theorem at_small : ∀ t : Fin cfg0.N, win0_2.index t (0 : Fin 2) = 0 ∧ win0_2.index t (1 : Fin 2) = 0 :=
  (by decide +kernel : ∀ t : Fin grid0.N, _)

/-- The weights array of device `c`, one row of 128 lanes per choice. -/
abbrev table (c : Dev nD) : Vec F S100000x128 .f32 :=
  transpose S100000x128 [1, 0] (m ((c : Thread nD τ).loc main_arg0) : Vec F S128x100000 .f32) transposes_S128x100000_S100000x128_1_0

/-- The region finds the transposed weights. -/
theorem V_table (c : Dev nD) : V m c main_v0 = table m c := by
  show StableHlo.after _ _ (Proc.devRef .tc main_v0) = _
  simp only [hostOps0, List.flatten_cons, List.flatten_nil, List.append_nil]
  after_results

/-- The row of the table that a place of block `t` is. -/
def rowOf (t : Fin cfg0.N) (r : ℕ) (h : r < 10000) : Fin 100000 :=
  ⟨10000 * (t.val % 10) + r, by have : t.val % 10 < 10 := Nat.mod_lt _ (by decide); omega⟩

/-- A place of block `t` of the weights is a place of the table. -/
theorem weights_apply (c : Dev nD) (t : Fin cfg0.N) (j : S10000x128.Idx) :
    weights m c t j = table m c (ix2 (n0 := 100000) (n1 := 128) (rowOf t (j 0).val (j 0).isLt) (j 1)) := by
  show V m c main_v0 (((cfg0.win 0).blk t).view.emb j) = _
  rw [V_table]
  congr 1
  obtain ⟨e0, e1⟩ := at_in t
  funext a
  apply Fin.ext
  match a with
  | ⟨0, _⟩ => show win0_0.index t (0 : Fin 2) * 10000 + 1 * (j 0).val = 10000 * (t.val % 10) + (j 0).val; omega
  | ⟨1, _⟩ => show win0_0.index t (1 : Fin 2) * 128 + 1 * (j 1).val = (j 1).val; omega

/-- The point of the second phase that paints row `r`. -/
def pointOf (r : Fin 100000) : Fin cfg0.N := ⟨10 + r.val / 10000, by have : cfg0.N = 20 := N_0; omega⟩

/-- The big output after the run. -/
def bigOut (c : Dev nD) : Vec F S100000x128 .f32 := fun i =>
  outBlock m c (pointOf (i 0)) (ix2 (n0 := 10000) (n1 := 128) ⟨(i 0).val % 10000, Nat.mod_lt _ (by decide)⟩ (i 1))

/-- Where block `t` of the big output lies. -/
theorem emb_big (t : Fin cfg0.N) (j : S10000x128.Idx) (a : Fin 2) :
    ((((cfg0.win 1).blk t).view.emb j) a).val = if a = 0 then (t.val - 10) * 10000 + (j 0).val else (j 1).val := by
  obtain ⟨e0, e1⟩ := at_big t
  match a with
  | ⟨0, _⟩ =>
    show win0_1.index t (0 : Fin 2) * 10000 + 1 * (j 0).val = (t.val - 10) * 10000 + (j 0).val
    rw [e0]; omega
  | ⟨1, _⟩ =>
    show win0_1.index t (1 : Fin 2) * 128 + 1 * (j 1).val = (j 1).val
    omega

/-- Each point of the second phase sends its block of `bigOut`. -/
theorem flushed_big (c : Dev nD) (t : Fin cfg0.N) (h : (cfg0.win 1).flush t = true) :
    (dats m 0 c).flushed 1 t = ((cfg0.win 1).blk t).view.read (Elt F) (bigOut m c) := by
  have ht := (flush_big t).mp h
  have ht' := lt20 t
  show (cfg0.win 1).cut (grid0.coords t) ((dats m 0 c).after 1 t) = _
  rw [after_big]
  funext j
  show outBlock m c t j = bigOut m c (((cfg0.win 1).blk t).view.emb j)
  have h0 : ((((cfg0.win 1).blk t).view.emb j) 0).val = (t.val - 10) * 10000 + (j 0).val := emb_big t j 0
  have h1 : (((cfg0.win 1).blk t).view.emb j) 1 = j 1 := Fin.ext (emb_big t j 1)
  have hj : (j 0).val < 10000 := (j 0).isLt
  have ep : pointOf ((((cfg0.win 1).blk t).view.emb j) 0) = t := Fin.ext (by
    show 10 + ((((cfg0.win 1).blk t).view.emb j) 0).val / 10000 = t.val
    rw [h0]; omega)
  show _ = outBlock m c (pointOf ((((cfg0.win 1).blk t).view.emb j) 0)) _
  rw [ep]
  congr 1
  funext a
  match a with
  | ⟨0, _⟩ =>
    apply Fin.ext
    show (j 0).val = ((((cfg0.win 1).blk t).view.emb j) 0).val % 10000
    rw [h0]; omega
  | ⟨1, _⟩ => exact h1.symm

/-- Every row of the big output is sent. -/
theorem covered_big (i : S100000x128.Idx) : ∃ t : Fin cfg0.N, (cfg0.win 1).flush t = true ∧ i ∈ ((cfg0.win 1).blk t).view.set := by
  refine ⟨pointOf (i 0), (flush_big _).mpr (Nat.le_add_right _ _), ?_⟩
  have h := ((cfg0.win 1).blk (pointOf (i 0))).view.emb_mem_set
    (ix2 (n0 := 10000) (n1 := 128) ⟨(i 0).val % 10000, Nat.mod_lt _ (by decide)⟩ (i 1))
  have e : ((cfg0.win 1).blk (pointOf (i 0))).view.emb
      (ix2 (n0 := 10000) (n1 := 128) ⟨(i 0).val % 10000, Nat.mod_lt _ (by decide)⟩ (i 1)) = i := by
    funext a
    apply Fin.ext
    rw [emb_big]
    match a with
    | ⟨0, _⟩ =>
      show (10 + (i 0).val / 10000 - 10) * 10000 + (i 0).val % 10000 = (i 0).val
      omega
    | ⟨1, _⟩ => rfl
  rwa [e] at h

/-- The big output after the run. -/
theorem final_big (c : Dev nD) : (dats m 0 c).arrAt 1 cfg0.N = bigOut m c :=
  (dats m 0 c).arrAt_eq_of_cover 1 (bigOut m c) (flushed_big m c) covered_big

/-- The one block of the small output is the whole of it. -/
theorem emb_small (t : Fin cfg0.N) (j : S1x128.Idx) : ((cfg0.win 2).blk t).view.emb j = j := by
  obtain ⟨e0, e1⟩ := at_small t
  funext a
  apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- Cutting the block out of a row reads the row. -/
theorem cut_small (t : Fin cfg0.N) (X : Vec F S1x128 .i32) :
    (cfg0.win 2).cut (grid0.coords t) X = ((cfg0.win 2).blk t).view.read (Elt F) X := by
  funext j
  show X j = X (((cfg0.win 2).blk t).view.emb j)
  rw [emb_small]

/-- The small output after the run. -/
theorem final_small (c : Dev nD) : (dats m 0 c).arrAt 2 cfg0.N = (chosenRow (final m c) : Vec F S1x128 .i32) := by
  refine (dats m 0 c).arrAt_eq_of_cover 2 (chosenRow (final m c) : Vec F S1x128 .i32) (fun t _ => ?_) fun i => ?_
  · show (cfg0.win 2).cut (grid0.coords t) ((dats m 0 c).after 2 t) = _
    rw [after_small]
    exact cut_small t _
  · have hN : 19 < cfg0.N := by have : cfg0.N = 20 := N_0; omega
    refine ⟨⟨19, hN⟩, (flush_small _).mpr rfl, ?_⟩
    have h := ((cfg0.win 2).blk ⟨19, hN⟩).view.emb_mem_set i
    rwa [emb_small] at h

/-- The first result of the program. -/
def out0 (c : Dev nD) : Vec F S128x1 .i32 :=
  transpose S128x1 [1, 0] (chosenRow (final m c) : Vec F S1x128 .i32) transposes_S1x128_S128x1_1_0

/-- The second result of the program. -/
def out1 (c : Dev nD) : Vec F S128x100000 .f32 :=
  transpose S128x100000 [1, 0] (bigOut m c) transposes_S100000x128_S128x100000_1_0

/-- The windows stage three different arrays. -/
theorem arrays_inj : Function.Injective (Pipeline.arrRef spec0) := launch0.win.arr_inj

/-- The first result is the transposed small output. -/
theorem tail_out0 (c : Dev nD) :
    Pipeline.afterTail₀ cfgs (dats m) 0 (V0 m) [hostOps1] c main_v2 = out0 m c := by
  have h := Pipeline.withArrays_arr spec0 arrays_inj c (V0 m c) (fun w => (dats m 0 c).arrAt w cfg0.N) 2
  rw [final_small] at h
  unfold Pipeline.afterTail₀ out0
  rw [← h]
  simp only [hostOps1, List.flatten_cons, List.flatten_nil, List.append_nil]
  after_results

/-- The second result is the transposed big output. -/
theorem tail_out1 (c : Dev nD) :
    Pipeline.afterTail₀ cfgs (dats m) 0 (V0 m) [hostOps1] c main_v3 = out1 m c := by
  have h := Pipeline.withArrays_arr spec0 arrays_inj c (V0 m c) (fun w => (dats m 0 c).arrAt w cfg0.N) 1
  rw [final_big] at h
  unfold Pipeline.afterTail₀ out1
  rw [← h]
  simp only [hostOps1, List.flatten_cons, List.flatten_nil, List.append_nil]
  after_results

/-- Every run ends with the two results at their functions of the weights and the arguments as they were. -/
theorem run_values : θ_run defs (onTc (τ := τ) (main (F := F))) ⟨m, fun _ => 0, ρ⟩ (fun r => ∀ c : Dev nD,
      r.2.mem ((c : Thread nD τ).loc main_v2) = out0 m c ∧ r.2.mem ((c : Thread nD τ).loc main_v3) = out1 m c) :=
  (θ_run defs _ _).mono (fun _ h c =>
    ⟨((h.1 c).2 main_v2 (Pipeline.mem_restRefs_of main_v2 (by decide) (by decide))).trans (tail_out0 m c),
     ((h.1 c).2 main_v3 (Pipeline.mem_restRefs_of main_v3 (by decide) (by decide))).trans (tail_out1 m c)⟩) (run_region m ρ)

/-- Every run ends with the arguments as they were and every counter at zero. -/
theorem run_quiet : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  θ_run_and (frame_of m ρ (dats m) (A_eq m) ((θ_run defs _ _).mono (fun _ h => h.1) (run_region m ρ)))
    ((θ_run defs _ _).mono (fun _ h => h.2) (run_region m ρ))

end Cert.KernelIdeal.Hand
-- ==== Proof.Same.lean ====
/- The kernel and its ideal form are one program: the frame of one is the frame of the other. -/
module

public import proofs.«01_k».proof.Proof.Gen.Kernel
public import proofs.«01_k».proof.Proof.Arrays

@[expose] public section

set_option maxRecDepth 100000

noncomputable section

namespace Cert.Kernel.Hand

open Idealize.ShloMosaic Idealize.ShloMosaic.TcCoe Idealize.SL.Sem

variable {F : FTy → Type} [FloatOps F]

/-- The kernel's body table is that of its ideal form. -/
theorem bodies_eq : Cert.Kernel.defs₀ (F := F) = Cert.KernelIdeal.defs₀ (F := F) := by
  unfold Cert.Kernel.defs₀ Cert.KernelIdeal.defs₀
  congr 1
  funext l x
  match l, x with
  | 0, (t, s) => rfl

/-- So is its whole table, the pipeline's bodies included. -/
theorem defs_eq : Cert.Kernel.defs (F := F) = Cert.KernelIdeal.defs (F := F) :=
  congrArg (Pipeline.defs (Cert.Kernel.pcfgs (F := F))) bodies_eq

/-- Its host program is that of its ideal form. -/
theorem main_eq : Cert.Kernel.main (F := F) = Cert.KernelIdeal.main (F := F) := rfl

variable (m : (ℓ : Loc Cert.Kernel.nD Cert.Kernel.τ Cert.Kernel.sig) → Buf (Elt F) ℓ)
  (ρ : Dev Cert.Kernel.nD → PrngReg)

/-- The kernel runs to the end, leaves its arguments as they were and every semaphore at zero. -/
theorem run_quiet : θ_run (Cert.Kernel.defs (F := F)) (onTc (τ := Cert.Kernel.τ) (Cert.Kernel.main (F := F)))
    ⟨m, fun _ => 0, ρ⟩ (fun r => (∀ c : Dev Cert.Kernel.nD,
      r.2.mem ((c : Thread Cert.Kernel.nD Cert.Kernel.τ).loc Cert.Kernel.main_arg0)
        = m ((c : Thread Cert.Kernel.nD Cert.Kernel.τ).loc Cert.Kernel.main_arg0)
      ∧ r.2.mem ((c : Thread Cert.Kernel.nD Cert.Kernel.τ).loc Cert.Kernel.main_arg1)
        = m ((c : Thread Cert.Kernel.nD Cert.Kernel.τ).loc Cert.Kernel.main_arg1)
      ∧ r.2.mem ((c : Thread Cert.Kernel.nD Cert.Kernel.τ).loc Cert.Kernel.main_arg2)
        = m ((c : Thread Cert.Kernel.nD Cert.Kernel.τ).loc Cert.Kernel.main_arg2))
      ∧ r.2.sem = fun _ => 0) := by
  rw [defs_eq, main_eq]
  exact Cert.KernelIdeal.Hand.run_quiet m ρ

end Cert.Kernel.Hand
-- ==== Proof.RefLine.lean ====
/- Straight lines of array operations in which every operation writes a buffer of its own, numbered in
   order, and reads only lower-numbered buffers: where the line ends, every operation's equation holds. -/
module

public import proofs.«01_k».proof.ReferenceIdeal
public import Idealize.ShloMosaic.Lib.StableHlo.Run

@[expose] public section

noncomputable section

namespace Cert.ReferenceIdeal.Hand

open Idealize.ShloMosaic Idealize.ShloMosaic.TcCoe Idealize.ShloMosaic.StableHlo Idealize.SL.Sem
open Cert.ReferenceIdeal

variable {F : FTy → Type} [FloatOps F]

local notation "Op" => HloOp τ sig (Elt F)
local notation "Vals" => Valuation τ sig (Elt F)

/-- The number of a buffer. -/
def key (r : Ref sig .tc) : ℕ := r.idx.val

/-- Buffers of different numbers are different buffers. -/
theorem devRef_ne_of_key {r s : Ref sig .tc} (h : key r ≠ key s) :
    (Proc.devRef (τ := τ) .tc r) ≠ Proc.devRef .tc s :=
  devRef_ne_of_ne fun e => h (congrArg key e)

/-- An operation that writes the buffer numbered `n` alone, as a function of lower-numbered ones. -/
def Step (n : ℕ) (op : Op) : Prop :=
  (op.bufs ⊆ tcRefs τ sig ∧ op.fresh = ∅) ∧
  ∃ (y : Ref sig .tc) (xs : List (Ref sig .tc)), op.writes = {Proc.devRef .tc y} ∧ key y = n ∧ (∀ x ∈ xs, key x < n) ∧
    ∀ V V' : Vals, (∀ x ∈ xs, V (Proc.devRef .tc x) = V' (Proc.devRef .tc x)) →
      op.result V (Proc.devRef .tc y) = op.result V' (Proc.devRef .tc y)

/-- A line of such operations, numbered from `n` on. -/
def Line : ℕ → List Op → Prop
  | _, [] => True
  | n, op :: ops => Step n op ∧ Line (n + 1) ops

/-- One more operation in front of a line. -/
theorem line_cons {n : ℕ} {op : Op} {ops : List Op} (h : Step n op) (hs : Line (n + 1) ops) : Line n (op :: ops) := ⟨h, hs⟩

/-- The operation's own equation holds of `R`: recomputing it changes nothing. -/
def Holds (R : Vals) (op : Op) : Prop := ∀ b ∈ op.writes, op.result R b = R b

/-- A line keeps the buffers below its first number. -/
theorem after_low (r : Ref sig .tc) : ∀ (n : ℕ) (ops : List Op) (V : Vals), Line n ops → key r < n →
    after ops V (Proc.devRef .tc r) = V (Proc.devRef .tc r)
  | _, [], _, _, _ => rfl
  | n, op :: ops, V, h, hr => by
    obtain ⟨⟨-, y, xs, hw, hk, -, -⟩, hs⟩ := h
    rw [after_cons, after_low r (n + 1) ops _ hs (by omega), op.result_of_not_mem]
    rw [hw, Finset.mem_singleton]
    exact devRef_ne_of_key (by omega)

/-- Where a line ends, every operation's equation holds. -/
theorem holds_after : ∀ (n : ℕ) (ops : List Op) (V : Vals), Line n ops → ops.Forall (Holds (after ops V))
  | _, [], _, _ => trivial
  | n, op :: ops, V, h => by
    obtain ⟨⟨-, y, xs, hw, hk, hx, hf⟩, hs⟩ := h
    refine (List.forall_cons _ _ _).mpr ⟨fun b hb => ?_, holds_after (n + 1) ops (op.result V) hs⟩
    rw [hw, Finset.mem_singleton] at hb
    subst hb
    rw [after_cons, after_low y (n + 1) ops _ hs (by omega)]
    refine hf _ _ fun x hm => ?_
    rw [after_low x (n + 1) ops _ hs (by have := hx x hm; omega), op.result_of_not_mem]
    rw [hw, Finset.mem_singleton]
    exact devRef_ne_of_key (by have := hx x hm; omega)

/-- A line touches only the device's own buffers. -/
theorem line_sub : ∀ (n : ℕ) (ops : List Op), Line n ops → ops.Forall fun op => op.bufs ⊆ tcRefs τ sig
  | _, [], _ => trivial
  | n, op :: ops, h => (List.forall_cons _ _ _).mpr ⟨h.1.1.1, line_sub (n + 1) ops h.2⟩

/-- A line leaves no buffer undetermined. -/
theorem line_fresh : ∀ (n : ℕ) (ops : List Op), Line n ops → ∀ op ∈ ops, op.fresh = ∅
  | _, [], _, _, hm => nomatch hm
  | n, op :: ops, h, o, hm => by
    rcases List.mem_cons.mp hm with e | e
    · exact e ▸ h.1.1.2
    · exact line_fresh (n + 1) ops h.2 o e

section Builders

variable {T Tx Ta Tb Tc Te : BufTy} {n : ℕ}

/-- A constant is such an operation. -/
theorem step_nullary {y : TRef sig T} {v : T.Contents (Elt F)} (hy : key y.ref = n) : Step n (TRef.nullary y v : Op) :=
  ⟨⟨nullary_bufs_sub _ _ _, rfl⟩, y.ref, [], rfl, hy, (fun x h => nomatch h), fun V V' _ => by rw [nullary_result, nullary_result]⟩

/-- A function of one array is such an operation. -/
theorem step_unary {x : TRef sig Tx} {y : TRef sig T} {f : Tx.Contents (Elt F) → T.Contents (Elt F)} (hx : key x.ref < n)
    (hy : key y.ref = n) : Step n (TRef.unary x y f : Op) :=
  ⟨⟨unary_bufs_sub _ _ _ _ _, rfl⟩, y.ref, [x.ref], rfl, hy, (by simpa using hx), fun V V' h => by
    rw [unary_result, unary_result, h x.ref (by simp)]⟩

/-- A function of two arrays is such an operation. -/
theorem step_binary {a : TRef sig Ta} {b : TRef sig Tb} {y : TRef sig T}
    {f : Ta.Contents (Elt F) → Tb.Contents (Elt F) → T.Contents (Elt F)} (ha : key a.ref < n) (hb : key b.ref < n)
    (hy : key y.ref = n) : Step n (TRef.binary a b y f : Op) :=
  ⟨⟨binary_bufs_sub _ _ _ _ _ _ _, rfl⟩, y.ref, [a.ref, b.ref], rfl, hy, (by simpa using ⟨ha, hb⟩), fun V V' h => by
    rw [binary_result, binary_result, h a.ref (by simp), h b.ref (by simp)]⟩

/-- A function of four arrays is such an operation. -/
theorem step_quaternary {a : TRef sig Ta} {b : TRef sig Tb} {c : TRef sig Tc} {e : TRef sig Te} {y : TRef sig T}
    {f : Ta.Contents (Elt F) → Tb.Contents (Elt F) → Tc.Contents (Elt F) → Te.Contents (Elt F) → T.Contents (Elt F)}
    (ha : key a.ref < n) (hb : key b.ref < n) (hc : key c.ref < n) (he : key e.ref < n) (hy : key y.ref = n) :
    Step n (TRef.quaternary a b c e y f : Op) :=
  ⟨⟨quaternary_bufs_sub _ _ _ _ _ _ _ _ _ _ _, rfl⟩, y.ref, [a.ref, b.ref, c.ref, e.ref], rfl, hy,
    (by simpa using ⟨ha, hb, hc, he⟩), fun V V' h => by
    rw [quaternary_result, quaternary_result, h a.ref (by simp), h b.ref (by simp), h c.ref (by simp), h e.ref (by simp)]⟩

/-- A reshape is such an operation. -/
theorem step_reshape {x : TRef sig Tx} {y : TRef sig T} {he : Tx.elt = T.elt} {hn : Tx.shape.ShapeCasts T.shape}
    (hx : key x.ref < n) (hy : key y.ref = n) : Step n (TRef.reshape x y he hn : Op) :=
  ⟨⟨reshape_bufs_sub _ _ _ _ _ _, rfl⟩, y.ref, [x.ref], rfl, hy, (by simpa using hx), fun V V' h => by
    rw [reshape_result, reshape_result, h x.ref (by simp)]⟩

/-- The value of a typed buffer. -/
def val (R : Vals) (x : TRef sig T) : T.Contents (Elt F) := x.ofBuf (R (Proc.devRef .tc x.ref))

/-- A constant's equation. -/
theorem holds_nullary {R : Vals} {y : TRef sig T} {v : T.Contents (Elt F)} (h : Holds R (TRef.nullary y v : Op)) :
    val R y = v := by
  have e := h (Proc.devRef .tc y.ref) (Finset.mem_singleton_self _)
  rw [nullary_result] at e
  unfold val
  rw [← e, TRef.ofBuf_toBuf]

/-- The equation of a function of one array. -/
theorem holds_unary {R : Vals} {x : TRef sig Tx} {y : TRef sig T} {f : Tx.Contents (Elt F) → T.Contents (Elt F)}
    (h : Holds R (TRef.unary x y f : Op)) : val R y = f (val R x) := by
  have e := h (Proc.devRef .tc y.ref) (Finset.mem_singleton_self _)
  rw [unary_result] at e
  show y.ofBuf _ = f (x.ofBuf _)
  rw [← e, TRef.ofBuf_toBuf]

/-- The equation of a function of two arrays. -/
theorem holds_binary {R : Vals} {a : TRef sig Ta} {b : TRef sig Tb} {y : TRef sig T}
    {f : Ta.Contents (Elt F) → Tb.Contents (Elt F) → T.Contents (Elt F)}
    (h : Holds R (TRef.binary a b y f : Op)) : val R y = f (val R a) (val R b) := by
  have e := h (Proc.devRef .tc y.ref) (Finset.mem_singleton_self _)
  rw [binary_result] at e
  show y.ofBuf _ = f (a.ofBuf _) (b.ofBuf _)
  rw [← e, TRef.ofBuf_toBuf]

/-- The equation of a function of four arrays. -/
theorem holds_quaternary {R : Vals} {a : TRef sig Ta} {b : TRef sig Tb} {c : TRef sig Tc} {e : TRef sig Te} {y : TRef sig T}
    {f : Ta.Contents (Elt F) → Tb.Contents (Elt F) → Tc.Contents (Elt F) → Te.Contents (Elt F) → T.Contents (Elt F)}
    (h : Holds R (TRef.quaternary a b c e y f : Op)) : val R y = f (val R a) (val R b) (val R c) (val R e) := by
  have e' := h (Proc.devRef .tc y.ref) (Finset.mem_singleton_self _)
  rw [quaternary_result] at e'
  show y.ofBuf _ = f (a.ofBuf _) (b.ofBuf _) (c.ofBuf _) (e.ofBuf _)
  rw [← e', TRef.ofBuf_toBuf]

/-- A reshape's equation, read at a place. -/
theorem holds_reshape {R : Vals} {x : TRef sig Tx} {y : TRef sig T} {he : Tx.elt = T.elt} {hn : Tx.shape.ShapeCasts T.shape}
    (h : Holds R (TRef.reshape x y he hn : Op)) : val R y = fun i => he ▸ shapeCast T.shape (val R x) hn i := by
  have e := h (Proc.devRef .tc y.ref) (Finset.mem_singleton_self _)
  rw [reshape_result] at e
  unfold val
  rw [← e]
  obtain ⟨x, rfl⟩ := x
  obtain ⟨y, rfl⟩ := y
  rfl

end Builders

end Cert.ReferenceIdeal.Hand
-- ==== Proof.RefOps.lean ====
/- The reference program as one line of array operations, and its run. -/
module

public import proofs.«01_k».proof.Proof.RefLine
public import proofs.«01_k».proof.Proof.Gen.ReferenceIdeal
public import Idealize.ShloMosaic.Lib.Claim

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

local notation "Op" => HloOp τ sig (Elt F)

/-- A buffer of one word. -/
abbrev K : Type := TRef sig ⟨S_, .i32⟩
/-- A buffer of a word per place. -/
abbrev W : Type := TRef sig ⟨S128x100000, .i32⟩
/-- A buffer of one float. -/
abbrev C : Type := TRef sig ⟨S_, .f32⟩
/-- A buffer of a float per place. -/
abbrev X : Type := TRef sig ⟨S128x100000, .f32⟩

/-- One scalar at every place. -/
abbrev all {e : EltTy} : (⟨S_, e⟩ : BufTy).Contents (Elt F) → (⟨S128x100000, e⟩ : BufTy).Contents (Elt F) :=
  broadcastInDim S128x100000 ![] bcast_S_S128x100000

/-- The word `w` at every place. -/
abbrev words (w : BitVec 32) (c : K) (v : W) : List Op := [TRef.nullary c (constantI S_ 32 w), TRef.unary c v all]

/-- The float of encoding `w` at every place. -/
abbrev floats (w : BitVec 32) (c : C) (v : X) : List Op := [TRef.nullary c (constant S_ .f32 w), TRef.unary c v all]

/-- A mixing round: `s` is the sum of `x` and `y`, `z` is `s` xor `y` rotated by `l` (and `r`, its complement). -/
abbrev turn (x y : W) (l r : BitVec 32) (s : W) (cl : K) (bl sl : W) (cr : K) (br sr o z : W) : List Op :=
  [TRef.binary x y s addi] ++ words l cl bl ++ [TRef.binary y bl sl Host.shli] ++ words r cr br ++
    [TRef.binary y br sr Host.shrui, TRef.binary sl sr o ori, TRef.binary s o z xori]

/-- A key injection: `k` into the first word, `k'` and the number `n` into the second. -/
abbrev stir (x y : W) (k k' : K) (n : BitVec 32) (b x' b' t : W) (c : K) (bn y' : W) : List Op :=
  [TRef.unary k b all, TRef.binary x b x' addi, TRef.unary k' b' all, TRef.binary y b' t addi] ++ words n c bn ++
    [TRef.binary t bn y' addi]

/-- A binary operation on floats at every place. -/
abbrev fff (a b y : X) (f : FVec F S128x100000 .f32 → FVec F S128x100000 .f32 → FVec F S128x100000 .f32) : Op := TRef.binary a b y f
/-- A unary operation on floats at every place. -/
abbrev ff (a y : X) (f : FVec F S128x100000 .f32 → FVec F S128x100000 .f32) : Op := TRef.unary a y f
/-- A binary operation on words at every place. -/
abbrev www (a b y : W) (f : IVec S128x100000 32 → IVec S128x100000 32 → IVec S128x100000 32) : Op := TRef.binary a b y f
/-- A binary operation on long words at every place. -/
abbrev lll (a b y : TRef sig ⟨S128x100000, .i64⟩) (f : IVec S128x100000 64 → IVec S128x100000 64 → IVec S128x100000 64) : Op :=
  TRef.binary a b y f
/-- A binary operation on one word. -/
abbrev kkk (a b y : K) (f : IVec S_ 32 → IVec S_ 32 → IVec S_ 32) : Op := TRef.binary a b y f
/-- A unary operation on one word. -/
abbrev kk (a y : K) (f : IVec S_ 32 → IVec S_ 32) : Op := TRef.unary a y f
/-- One long word at every place. -/
abbrev kl (a : TRef sig ⟨S_, .i64⟩) (y : TRef sig ⟨S128x100000, .i64⟩) : Op := TRef.unary a y all

/-- The operations of the random-word function. -/
abbrev randomOps (a0 a1 : K) (a2 a3 : W) (φ : fn_threefry2x32.Bufs) : List Op :=
  [TRef.binary a0 a1 φ.v0 xori, TRef.nullary φ.c (constantI S_ 32 466688986#32), TRef.binary φ.v0 φ.c φ.v1 xori,
    TRef.unary a0 φ.v2 all, TRef.binary a2 φ.v2 φ.v3 addi, TRef.unary a1 φ.v4 all, TRef.binary a3 φ.v4 φ.v5 addi] ++ (
  turn φ.v3 φ.v5 13#32 19#32 φ.v6 φ.c_0 φ.v7 φ.v8 φ.c_1 φ.v9 φ.v10 φ.v11 φ.v12 ++ (
  turn φ.v6 φ.v12 15#32 17#32 φ.v13 φ.c_2 φ.v14 φ.v15 φ.c_3 φ.v16 φ.v17 φ.v18 φ.v19 ++ (
  turn φ.v13 φ.v19 26#32 6#32 φ.v20 φ.c_4 φ.v21 φ.v22 φ.c_5 φ.v23 φ.v24 φ.v25 φ.v26 ++ (
  turn φ.v20 φ.v26 6#32 26#32 φ.v27 φ.c_6 φ.v28 φ.v29 φ.c_7 φ.v30 φ.v31 φ.v32 φ.v33 ++ (
  stir φ.v27 φ.v33 a1 φ.v1 1#32 φ.v34 φ.v35 φ.v36 φ.v37 φ.c_8 φ.v38 φ.v39 ++ (
  turn φ.v35 φ.v39 17#32 15#32 φ.v40 φ.c_9 φ.v41 φ.v42 φ.c_10 φ.v43 φ.v44 φ.v45 φ.v46 ++ (
  turn φ.v40 φ.v46 29#32 3#32 φ.v47 φ.c_11 φ.v48 φ.v49 φ.c_12 φ.v50 φ.v51 φ.v52 φ.v53 ++ (
  turn φ.v47 φ.v53 16#32 16#32 φ.v54 φ.c_13 φ.v55 φ.v56 φ.c_14 φ.v57 φ.v58 φ.v59 φ.v60 ++ (
  turn φ.v54 φ.v60 24#32 8#32 φ.v61 φ.c_15 φ.v62 φ.v63 φ.c_16 φ.v64 φ.v65 φ.v66 φ.v67 ++ (
  stir φ.v61 φ.v67 φ.v1 a0 2#32 φ.v68 φ.v69 φ.v70 φ.v71 φ.c_17 φ.v72 φ.v73 ++ (
  turn φ.v69 φ.v73 13#32 19#32 φ.v74 φ.c_18 φ.v75 φ.v76 φ.c_19 φ.v77 φ.v78 φ.v79 φ.v80 ++ (
  turn φ.v74 φ.v80 15#32 17#32 φ.v81 φ.c_20 φ.v82 φ.v83 φ.c_21 φ.v84 φ.v85 φ.v86 φ.v87 ++ (
  turn φ.v81 φ.v87 26#32 6#32 φ.v88 φ.c_22 φ.v89 φ.v90 φ.c_23 φ.v91 φ.v92 φ.v93 φ.v94 ++ (
  turn φ.v88 φ.v94 6#32 26#32 φ.v95 φ.c_24 φ.v96 φ.v97 φ.c_25 φ.v98 φ.v99 φ.v100 φ.v101 ++ (
  stir φ.v95 φ.v101 a0 a1 3#32 φ.v102 φ.v103 φ.v104 φ.v105 φ.c_26 φ.v106 φ.v107 ++ (
  turn φ.v103 φ.v107 17#32 15#32 φ.v108 φ.c_27 φ.v109 φ.v110 φ.c_28 φ.v111 φ.v112 φ.v113 φ.v114 ++ (
  turn φ.v108 φ.v114 29#32 3#32 φ.v115 φ.c_29 φ.v116 φ.v117 φ.c_30 φ.v118 φ.v119 φ.v120 φ.v121 ++ (
  turn φ.v115 φ.v121 16#32 16#32 φ.v122 φ.c_31 φ.v123 φ.v124 φ.c_32 φ.v125 φ.v126 φ.v127 φ.v128 ++ (
  turn φ.v122 φ.v128 24#32 8#32 φ.v129 φ.c_33 φ.v130 φ.v131 φ.c_34 φ.v132 φ.v133 φ.v134 φ.v135 ++ (
  stir φ.v129 φ.v135 a1 φ.v1 4#32 φ.v136 φ.v137 φ.v138 φ.v139 φ.c_35 φ.v140 φ.v141 ++ (
  turn φ.v137 φ.v141 13#32 19#32 φ.v142 φ.c_36 φ.v143 φ.v144 φ.c_37 φ.v145 φ.v146 φ.v147 φ.v148 ++ (
  turn φ.v142 φ.v148 15#32 17#32 φ.v149 φ.c_38 φ.v150 φ.v151 φ.c_39 φ.v152 φ.v153 φ.v154 φ.v155 ++ (
  turn φ.v149 φ.v155 26#32 6#32 φ.v156 φ.c_40 φ.v157 φ.v158 φ.c_41 φ.v159 φ.v160 φ.v161 φ.v162 ++ (
  turn φ.v156 φ.v162 6#32 26#32 φ.v163 φ.c_42 φ.v164 φ.v165 φ.c_43 φ.v166 φ.v167 φ.v168 φ.v169 ++ (
  stir φ.v163 φ.v169 φ.v1 a0 5#32 φ.v170 φ.v171 φ.v172 φ.v173 φ.c_44 φ.v174 φ.v175)))))))))))))))))))))))))

/-- The operations of the index-of-the-maximum function. -/
abbrev argmaxOps (x : X) (φ : fn_argmax.Bufs) : List Op :=
  [TRef.nullary φ.v0 (iotaInDim S128x100000 32 1), TRef.nullary φ.cst (constant S_ .f32 0xFF800000#32),
    TRef.nullary φ.c (constantI S_ 32 0#32),
    TRef.quaternary x φ.v0 φ.cst φ.c φ.v1_0 (fun x y u v j => (Host.argReduce reducer_argmax_f32_i32 x y u v reducesTo_S128x100000_S128_d1 h_S_ j).1),
    TRef.quaternary x φ.v0 φ.cst φ.c φ.v1_1 (fun x y u v j => (Host.argReduce reducer_argmax_f32_i32 x y u v reducesTo_S128x100000_S128_d1 h_S_ j).2)]

/-- The key, the clamped logarithms and the counters. -/
abbrev countOps : List Op :=
  [TRef.nullary (.of main_c) (constantI S_ 32 42#32), TRef.nullary (.of main_c_0) (constantI S_ 32 32#32),
    kkk (.of main_c) (.of main_c_0) (.of main_v0) Host.shrui,
    kk (.of main_v0) (.of main_v1) id,
    TRef.unary (Tx := ⟨S_, .i32⟩) (Ty := ⟨S1, .i32⟩) (.of main_v1) (.of main_v2) (broadcastInDim S1 ![] bcast_S_S1),
    TRef.nullary (.of main_c_1) (constantI S_ 32 4294967295#32),
    kkk (.of main_c) (.of main_c_1) (.of main_v3) andi,
    kk (.of main_v3) (.of main_v4) id,
    TRef.unary (Tx := ⟨S_, .i32⟩) (Ty := ⟨S1, .i32⟩) (.of main_v4) (.of main_v5) (broadcastInDim S1 ![] bcast_S_S1),
    TRef.binary (Ta := ⟨S1, .i32⟩) (Tb := ⟨S1, .i32⟩) (Ty := ⟨S2, .i32⟩) (.of main_v2) (.of main_v5) (.of main_v6)
      (fun a b => concatenate S2 0 [⟨S1, a⟩, ⟨S1, b⟩] concatenates_S1_S1_S2_d0)] ++
  floats 0x0DA24260#32 (.of main_cst) (.of main_v7) ++
  [fff (.of main_arg0) (.of main_v7) (.of main_v8) maximumf,
    ff (.of main_v8) (.of main_v9) Host.log,
    TRef.unary (Tx := ⟨S2, .i32⟩) (Ty := ⟨S1, .i32⟩) (.of main_v6) (.of main_v10) (extractStridedSlice S1 ![0] · slices_S2_S1_0),
    TRef.reshape (Tx := ⟨S1, .i32⟩) (Ty := ⟨S_, .i32⟩) (.of main_v10) (.of main_v11) rfl shapeCasts_S1_S_,
    TRef.unary (Tx := ⟨S2, .i32⟩) (Ty := ⟨S1, .i32⟩) (.of main_v6) (.of main_v12) (extractStridedSlice S1 ![1] · slices_S2_S1_1),
    TRef.reshape (Tx := ⟨S1, .i32⟩) (Ty := ⟨S_, .i32⟩) (.of main_v12) (.of main_v13) rfl shapeCasts_S1_S_,
    TRef.nullary (.of main_v14) (iotaInDim S128x100000 64 0), TRef.nullary (.of main_v15) (iotaInDim S128x100000 64 1),
    TRef.nullary (.of main_c_2) (constantI S_ 64 100000#64),
    kl (.of main_c_2) (.of main_v16),
    lll (.of main_v16) (.of main_v14) (.of main_v17) muli,
    TRef.nullary (.of main_c_3) (constantI S_ 64 1#64),
    kl (.of main_c_3) (.of main_v18),
    lll (.of main_v18) (.of main_v15) (.of main_v19) muli,
    lll (.of main_v17) (.of main_v19) (.of main_v20) addi,
    TRef.nullary (.of main_c_4) (constantI S_ 64 32#64),
    kl (.of main_c_4) (.of main_v21),
    lll (.of main_v20) (.of main_v21) (.of main_v22) Host.shrui,
    TRef.unary (Tx := ⟨S128x100000, .i64⟩) (Ty := ⟨S128x100000, .i32⟩) (.of main_v20) (.of main_v23) (trunci 32 · natLt_32_64),
    TRef.unary (Tx := ⟨S128x100000, .i64⟩) (Ty := ⟨S128x100000, .i32⟩) (.of main_v22) (.of main_v24) (trunci 32 · natLt_32_64)]

/-- The perturbed log weights from the random words. -/
abbrev scoreOps : List Op :=
  [www (.of main_v25_0) (.of main_v25_1) (.of main_v26) xori] ++
  words 9#32 (.of main_c_5) (.of main_v27) ++
  [www (.of main_v26) (.of main_v27) (.of main_v28) Host.shrui] ++
  words 1065353216#32 (.of main_c_6) (.of main_v29) ++
  [www (.of main_v28) (.of main_v29) (.of main_v30) ori,
    TRef.unary (Tx := ⟨S128x100000, .i32⟩) (Ty := ⟨S128x100000, .f32⟩) (.of main_v30) (.of main_v31) (bitcastToFloat .f32)] ++
  floats 0x3F800000#32 (.of main_cst_7) (.of main_v32) ++
  [fff (.of main_v31) (.of main_v32) (.of main_v33) subf] ++
  floats 0x3F800000#32 (.of main_cst_8) (.of main_v34) ++
  [fff (.of main_v33) (.of main_v34) (.of main_v35) mulf] ++
  floats 0x00800000#32 (.of main_cst_9) (.of main_v36) ++
  [fff (.of main_v35) (.of main_v36) (.of main_v37) addf] ++
  floats 0x00800000#32 (.of main_cst_10) (.of main_v38) ++
  [fff (.of main_v38) (.of main_v37) (.of main_v39) maximumf,
    ff (.of main_v39) (.of main_v40) Host.log,
    ff (.of main_v40) (.of main_v41) Host.negf,
    ff (.of main_v41) (.of main_v42) Host.log,
    ff (.of main_v42) (.of main_v43) Host.negf,
    fff (.of main_v43) (.of main_v9) (.of main_v44) addf]

/-- The two results from the chosen columns. -/
abbrev resultOps : List Op :=
  [TRef.unary (Tx := ⟨S128, .i32⟩) (Ty := ⟨S128x1, .i32⟩) (.of main_v45) (.of main_v46) (broadcastInDim S128x1 ![0] bcast_S128_S128x1_0),
    TRef.nullary (.of main_v47) (iotaInDim S100000 32 0),
    TRef.unary (Tx := ⟨S100000, .i32⟩) (Ty := ⟨S1x100000, .i32⟩) (.of main_v47) (.of main_v48) (broadcastInDim S1x100000 ![1] bcast_S100000_S1x100000_1),
    TRef.unary (Tx := ⟨S1x100000, .i32⟩) (Ty := ⟨S128x100000, .i32⟩) (.of main_v48) (.of main_v49) (broadcastInDim S128x100000 ![0, 1] bcast_S1x100000_S128x100000_0_1),
    TRef.unary (Tx := ⟨S128x1, .i32⟩) (Ty := ⟨S128x100000, .i32⟩) (.of main_v46) (.of main_v50) (broadcastInDim S128x100000 ![0, 1] bcast_S128x1_S128x100000_0_1),
    TRef.binary (Ta := ⟨S128x100000, .i32⟩) (Tb := ⟨S128x100000, .i32⟩) (Ty := ⟨S128x100000, .i1⟩) (.of main_v49) (.of main_v50) (.of main_v51) (cmpi .eq),
    TRef.unary (Tx := ⟨S128x100000, .i1⟩) (Ty := ⟨S128x100000, .f32⟩) (.of main_v51) (.of main_v52) (uitofp .f32)] ++
  floats 0x3F800000#32 (.of main_cst_11) (.of main_v53) ++
  [fff (.of main_v53) (.of main_arg0) (.of main_v54) subf] ++
  floats 0x2EDBE6FF#32 (.of main_cst_12) (.of main_v55) ++
  [fff (.of main_arg0) (.of main_v55) (.of main_v56) maximumf,
    fff (.of main_v54) (.of main_v56) (.of main_v57) Host.divf] ++
  floats 0x3F800000#32 (.of main_cst_13) (.of main_v58) ++
  [fff (.of main_v58) (.of main_arg0) (.of main_v59) subf] ++
  floats 0x2EDBE6FF#32 (.of main_cst_14) (.of main_v60) ++
  [fff (.of main_v59) (.of main_v60) (.of main_v61) maximumf,
    fff (.of main_arg0) (.of main_v61) (.of main_v62) Host.divf,
    fff (.of main_v52) (.of main_v57) (.of main_v63) mulf] ++
  floats 0x3F800000#32 (.of main_cst_15) (.of main_v64) ++
  [fff (.of main_v64) (.of main_v52) (.of main_v65) subf,
    fff (.of main_v65) (.of main_v62) (.of main_v66) mulf,
    fff (.of main_v63) (.of main_v66) (.of main_v67) addf]

/-- The whole program's operations, in order. -/
def ops : List Op :=
  countOps ++ (randomOps (.of main_v11) (.of main_v13) (.of main_v24) (.of main_v23) main_call0 ++ (scoreOps ++
    (argmaxOps (.of main_v44) main_call1 ++ resultOps)))

/-- The random-word function is its line. -/
theorem random_eq (a0 a1 : K) (a2 a3 : W) (φ : fn_threefry2x32.Bufs) :
    fn_threefry2x32.body (F := F) a0 a1 a2 a3 φ = seq (randomOps a0 a1 a2 a3 φ) := by
  simp only [fn_threefry2x32.body, fn_threefry2x32.body_part0, fn_threefry2x32.body_part1, fn_threefry2x32.body_part2,
    fn_threefry2x32.body_part3, randomOps, turn, stir, words, List.cons_append, List.nil_append, seq, bind_assoc]

/-- The index-of-the-maximum function is its line. -/
theorem argmax_eq (x : X) (φ : fn_argmax.Bufs) : fn_argmax.body (F := F) x φ = seq (argmaxOps x φ) := rfl

/-- The second part of the program is its line. -/
theorem part1_eq (c : Dev nD) : main_part1 (F := F) c = seq (resultOps.drop 1) := rfl

/-- The first part of the program is its lines in a row. -/
theorem part0_eq (c : Dev nD) : main_part0 (F := F) c = (do
    seq countOps
    fn_threefry2x32.body (.of main_v11) (.of main_v13) (.of main_v24) (.of main_v23) main_call0
    seq scoreOps
    fn_argmax.body (.of main_v44) main_call1
    seq (resultOps.take 1)) := rfl

/-- Lines run one after the other are their concatenation run as one. -/
theorem seq_five (a b c d e e1 e2 : List Op) (h : e = e1 ++ e2) :
    ((do seq a; seq b; seq c; seq d; seq e1) >>= fun _ => seq e2 :
      Prog (TpuEff nD τ sig (Elt F) (Pipeline.Sig Λ₀ (Fin 0) fun p => (pcfgs (F := F) p).Adm) .tc) PUnit)
      = seq (a ++ (b ++ (c ++ (d ++ e)))) := by
  subst h
  simp only [seq_append, bind_assoc]

/-- The program is that line. -/
theorem main_eq (c : Dev nD) : main (F := F) c = seq ops := by
  show (main_part0 c >>= fun _ => main_part1 c) = _
  rw [part0_eq, part1_eq, random_eq, argmax_eq]
  exact seq_five _ _ _ _ resultOps _ _ rfl

end Cert.ReferenceIdeal.Hand
-- ==== Proof.RefRun.lean ====
/- The reference program's operations are a line, so at the end of its run every operation's equation
   holds. -/
module

public import proofs.«01_k».proof.Proof.RefOps
public import Idealize.ShloMosaic.Lib.Quiescent

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

section Next

variable {T Tx Ta Tb Tc Te : BufTy} {n : ℕ} {l : List (HloOp τ sig (Elt F))}

/-- A constant in front of a line. -/
theorem next0 {y : TRef sig T} {v : T.Contents (Elt F)} (hy : key y.ref = n) (hl : Line (n + 1) l) :
    Line n (TRef.nullary y v :: l) := ⟨step_nullary hy, hl⟩

/-- A function of one array in front of a line. -/
theorem next1 {x : TRef sig Tx} {y : TRef sig T} {f : Tx.Contents (Elt F) → T.Contents (Elt F)} (hx : key x.ref < n)
    (hy : key y.ref = n) (hl : Line (n + 1) l) : Line n (TRef.unary x y f :: l) := ⟨step_unary hx hy, hl⟩

/-- A reshape in front of a line. -/
theorem nextR {x : TRef sig Tx} {y : TRef sig T} {he : Tx.elt = T.elt} {hn : Tx.shape.ShapeCasts T.shape}
    (hx : key x.ref < n) (hy : key y.ref = n) (hl : Line (n + 1) l) : Line n (TRef.reshape x y he hn :: l) :=
  ⟨step_reshape hx hy, hl⟩

/-- A function of two arrays in front of a line. -/
theorem next2 {a : TRef sig Ta} {b : TRef sig Tb} {y : TRef sig T} {f : Ta.Contents (Elt F) → Tb.Contents (Elt F) → T.Contents (Elt F)}
    (ha : key a.ref < n) (hb : key b.ref < n) (hy : key y.ref = n) (hl : Line (n + 1) l) : Line n (TRef.binary a b y f :: l) :=
  ⟨step_binary ha hb hy, hl⟩

/-- A function of four arrays in front of a line. -/
theorem next4 {a : TRef sig Ta} {b : TRef sig Tb} {c : TRef sig Tc} {e : TRef sig Te} {y : TRef sig T}
    {f : Ta.Contents (Elt F) → Tb.Contents (Elt F) → Tc.Contents (Elt F) → Te.Contents (Elt F) → T.Contents (Elt F)}
    (ha : key a.ref < n) (hb : key b.ref < n) (hc : key c.ref < n) (he : key e.ref < n) (hy : key y.ref = n)
    (hl : Line (n + 1) l) : Line n (TRef.quaternary a b c e y f :: l) := ⟨step_quaternary ha hb hc he hy, hl⟩

end Next

/-- Two lines in a row, the second numbered on from the first. -/
theorem line_append : ∀ {n : ℕ} (k : ℕ) {a b : List (HloOp τ sig (Elt F))}, a.length = k → Line n a → Line (n + k) b → Line n (a ++ b)
  | n, _, [], b, rfl, _, hb => hb
  | n, _, op :: a, b, rfl, ha, hb => ⟨ha.1, line_append a.length rfl ha.2 (by
      rw [show n + 1 + a.length = n + (op :: a).length by rw [List.length_cons]; omega]; exact hb)⟩

/-- A mixing round is a line. -/
theorem turn_line {n : ℕ} {x y : W} {p r : BitVec 32} {s : W} {cl : K} {bl sl : W} {cr : K} {br sr o z : W}
    (hx : key x.ref < n) (hy : key y.ref < n)
    (h : key s.ref = n ∧ key cl.ref = n + 1 ∧ key bl.ref = n + 2 ∧ key sl.ref = n + 3 ∧ key cr.ref = n + 4 ∧ key br.ref = n + 5
      ∧ key sr.ref = n + 6 ∧ key o.ref = n + 7 ∧ key z.ref = n + 8) :
    Line n (turn x y p r s cl bl sl cr br sr o z : List (HloOp τ sig (Elt F))) := by
  obtain ⟨h0, h1, h2, h3, h4, h5, h6, h7, h8⟩ := h
  exact next2 hx hy h0 <| next0 h1 <| next1 (by omega) h2 <| next2 (by omega) (by omega) h3 <| next0 h4 <|
    next1 (by omega) h5 <| next2 (by omega) (by omega) h6 <| next2 (by omega) (by omega) h7 <|
    next2 (by omega) (by omega) h8 <| trivial

/-- A key injection is a line. -/
theorem stir_line {n : ℕ} {x y : W} {k k' : K} {w : BitVec 32} {b x' b' t : W} {c : K} {bn y' : W}
    (hx : key x.ref < n) (hy : key y.ref < n) (hk : key k.ref < n) (hk' : key k'.ref < n)
    (h : key b.ref = n ∧ key x'.ref = n + 1 ∧ key b'.ref = n + 2 ∧ key t.ref = n + 3 ∧ key c.ref = n + 4 ∧ key bn.ref = n + 5
      ∧ key y'.ref = n + 6) :
    Line n (stir x y k k' w b x' b' t c bn y' : List (HloOp τ sig (Elt F))) := by
  obtain ⟨h0, h1, h2, h3, h4, h5, h6⟩ := h
  exact next1 hk h0 <| next2 (by omega) (by omega) h1 <| next1 (by omega) h2 <| next2 (by omega) (by omega) h3 <| next0 h4 <|
    next1 (by omega) h5 <| next2 (by omega) (by omega) h6 <| trivial

/-- The counting operations write the buffers in their order, each from earlier ones. -/
theorem count_line : Line 3 (countOps : List (HloOp τ sig (Elt F))) :=
  next0 (by decide) <| next0 (by decide) <| next2 (by decide) (by decide) (by decide) <|
  next1 (by decide) (by decide) <| next1 (by decide) (by decide) <| next0 (by decide) <|
  next2 (by decide) (by decide) (by decide) <| next1 (by decide) (by decide) <| next1 (by decide) (by decide) <|
  next2 (by decide) (by decide) (by decide) <| next0 (by decide) <| next1 (by decide) (by decide) <|
  next2 (by decide) (by decide) (by decide) <| next1 (by decide) (by decide) <| next1 (by decide) (by decide) <|
  nextR (by decide) (by decide) <| next1 (by decide) (by decide) <| nextR (by decide) (by decide) <|
  next0 (by decide) <| next0 (by decide) <| next0 (by decide) <| next1 (by decide) (by decide) <|
  next2 (by decide) (by decide) (by decide) <| next0 (by decide) <| next1 (by decide) (by decide) <|
  next2 (by decide) (by decide) (by decide) <| next2 (by decide) (by decide) (by decide) <| next0 (by decide) <|
  next1 (by decide) (by decide) <| next2 (by decide) (by decide) (by decide) <| next1 (by decide) (by decide) <|
  next1 (by decide) (by decide) <| trivial

/-- The scoring operations write the buffers in their order, each from earlier ones. -/
theorem score_line : Line 257 (scoreOps : List (HloOp τ sig (Elt F))) :=
  next2 (by decide) (by decide) (by decide) <| next0 (by decide) <| next1 (by decide) (by decide) <|
  next2 (by decide) (by decide) (by decide) <| next0 (by decide) <| next1 (by decide) (by decide) <|
  next2 (by decide) (by decide) (by decide) <| next1 (by decide) (by decide) <| next0 (by decide) <|
  next1 (by decide) (by decide) <| next2 (by decide) (by decide) (by decide) <| next0 (by decide) <|
  next1 (by decide) (by decide) <| next2 (by decide) (by decide) (by decide) <| next0 (by decide) <|
  next1 (by decide) (by decide) <| next2 (by decide) (by decide) (by decide) <| next0 (by decide) <|
  next1 (by decide) (by decide) <| next2 (by decide) (by decide) (by decide) <| next1 (by decide) (by decide) <|
  next1 (by decide) (by decide) <| next1 (by decide) (by decide) <| next1 (by decide) (by decide) <|
  next2 (by decide) (by decide) (by decide) <| trivial

/-- The operations of the index of the maximum write the buffers in their order, each from earlier ones. -/
theorem argmax_line : Line 282 (argmaxOps (.of main_v44) main_call1 : List (HloOp τ sig (Elt F))) :=
  next0 (by decide) <| next0 (by decide) <| next0 (by decide) <|
  next4 (by decide) (by decide) (by decide) (by decide) (by decide) <|
  next4 (by decide) (by decide) (by decide) (by decide) (by decide) <| trivial

/-- The operations of the results write the buffers in their order, each from earlier ones. -/
theorem result_line : Line 287 (resultOps : List (HloOp τ sig (Elt F))) :=
  next1 (by decide) (by decide) <| next0 (by decide) <| next1 (by decide) (by decide) <|
  next1 (by decide) (by decide) <| next1 (by decide) (by decide) <| next2 (by decide) (by decide) (by decide) <|
  next1 (by decide) (by decide) <| next0 (by decide) <| next1 (by decide) (by decide) <|
  next2 (by decide) (by decide) (by decide) <| next0 (by decide) <| next1 (by decide) (by decide) <|
  next2 (by decide) (by decide) (by decide) <| next2 (by decide) (by decide) (by decide) <| next0 (by decide) <|
  next1 (by decide) (by decide) <| next2 (by decide) (by decide) (by decide) <| next0 (by decide) <|
  next1 (by decide) (by decide) <| next2 (by decide) (by decide) (by decide) <|
  next2 (by decide) (by decide) (by decide) <| next2 (by decide) (by decide) (by decide) <| next0 (by decide) <|
  next1 (by decide) (by decide) <| next2 (by decide) (by decide) (by decide) <|
  next2 (by decide) (by decide) (by decide) <| next2 (by decide) (by decide) (by decide) <| trivial

/-- Four rounds and an injection in front of a line. -/
theorem group_line {n : ℕ} {a b c d e l : List (HloOp τ sig (Elt F))} (ha : a.length = 9 ∧ Line n a) (hb : b.length = 9 ∧ Line (n + 9) b)
    (hc : c.length = 9 ∧ Line (n + 18) c) (hd : d.length = 9 ∧ Line (n + 27) d) (he : e.length = 7 ∧ Line (n + 36) e)
    (hl : Line (n + 43) l) : Line n (a ++ (b ++ (c ++ (d ++ (e ++ l))))) :=
  line_append 9 ha.1 ha.2 <| line_append 9 hb.1 hb.2 <| line_append 9 hc.1 hc.2 <| line_append 9 hd.1 hd.2 <|
    line_append 7 he.1 he.2 hl

/-- Four rounds and an injection are a line. -/
theorem last_line {n : ℕ} {a b c d e : List (HloOp τ sig (Elt F))} (ha : a.length = 9 ∧ Line n a) (hb : b.length = 9 ∧ Line (n + 9) b)
    (hc : c.length = 9 ∧ Line (n + 18) c) (hd : d.length = 9 ∧ Line (n + 27) d) (he : Line (n + 36) e) :
    Line n (a ++ (b ++ (c ++ (d ++ e)))) :=
  line_append 9 ha.1 ha.2 <| line_append 9 hb.1 hb.2 <| line_append 9 hc.1 hc.2 <| line_append 9 hd.1 hd.2 he

/-- The operations of the random-word function write the buffers in their order, each from earlier ones. -/
theorem random_line :
    Line 35 (randomOps (.of main_v11) (.of main_v13) (.of main_v24) (.of main_v23) main_call0 : List (HloOp τ sig (Elt F))) :=
  line_append 7 rfl (next2 (by decide) (by decide) (by decide) <| next0 (by decide) <| next2 (by decide) (by decide) (by decide) <| next1 (by decide) (by decide) <| next2 (by decide) (by decide) (by decide) <| next1 (by decide) (by decide) <| next2 (by decide) (by decide) (by decide) <| trivial) <|
  group_line ⟨rfl, turn_line (by decide) (by decide) (by decide)⟩ ⟨rfl, turn_line (by decide) (by decide) (by decide)⟩
    ⟨rfl, turn_line (by decide) (by decide) (by decide)⟩ ⟨rfl, turn_line (by decide) (by decide) (by decide)⟩
    ⟨rfl, stir_line (by decide) (by decide) (by decide) (by decide) (by decide)⟩ <|
  group_line ⟨rfl, turn_line (by decide) (by decide) (by decide)⟩ ⟨rfl, turn_line (by decide) (by decide) (by decide)⟩
    ⟨rfl, turn_line (by decide) (by decide) (by decide)⟩ ⟨rfl, turn_line (by decide) (by decide) (by decide)⟩
    ⟨rfl, stir_line (by decide) (by decide) (by decide) (by decide) (by decide)⟩ <|
  group_line ⟨rfl, turn_line (by decide) (by decide) (by decide)⟩ ⟨rfl, turn_line (by decide) (by decide) (by decide)⟩
    ⟨rfl, turn_line (by decide) (by decide) (by decide)⟩ ⟨rfl, turn_line (by decide) (by decide) (by decide)⟩
    ⟨rfl, stir_line (by decide) (by decide) (by decide) (by decide) (by decide)⟩ <|
  group_line ⟨rfl, turn_line (by decide) (by decide) (by decide)⟩ ⟨rfl, turn_line (by decide) (by decide) (by decide)⟩
    ⟨rfl, turn_line (by decide) (by decide) (by decide)⟩ ⟨rfl, turn_line (by decide) (by decide) (by decide)⟩
    ⟨rfl, stir_line (by decide) (by decide) (by decide) (by decide) (by decide)⟩ <|
  last_line ⟨rfl, turn_line (by decide) (by decide) (by decide)⟩ ⟨rfl, turn_line (by decide) (by decide) (by decide)⟩
    ⟨rfl, turn_line (by decide) (by decide) (by decide)⟩ ⟨rfl, turn_line (by decide) (by decide) (by decide)⟩
    (stir_line (by decide) (by decide) (by decide) (by decide) (by decide))

/-- All the operations write the buffers in their order, each from earlier ones. -/
theorem ops_line : Line 3 (ops (F := F)) := by
  unfold ops
  exact line_append 32 rfl count_line <| line_append 222 rfl random_line <| line_append 25 rfl score_line <|
    line_append 5 rfl argmax_line result_line

variable (m : (ℓ : Loc nD τ sig) → Buf (Elt F) ℓ) (ρ : Dev nD → PrngReg)

/-- What the buffers of a device hold at the end. -/
def finish (c : Dev nD) : Valuation τ sig (Elt F) := after (ops (F := F)) (launchContents m c)

/-- Every operation's equation holds at the end. -/
theorem finish_holds (c : Dev nD) : (ops (F := F)).Forall (Holds (finish m c)) := holds_after 3 _ _ ops_line

/-- An argument is as it was. -/
theorem finish_low (c : Dev nD) (r : Ref sig .tc) (h : key r < 3) : finish m c (Proc.devRef .tc r) = m ((c : Thread nD τ).loc r) :=
  after_low r 3 _ _ ops_line h

/-- The program allocates no region-scoped buffers. -/
theorem scoped_none : (Finset.univ.filter fun b : Ref sig .tc => b.isScoped) = ∅ := by decide

/-- Nor region-scoped counters. -/
theorem scoped_sems_none : (Finset.univ.filter fun sm : SemLoc sig => sm.isScoped .tc) = ∅ := by decide

/-- Every run ends with every buffer at what the line leaves. -/
theorem run_finish : θ_run defs (onTc (τ := τ) (main (F := F))) ⟨m, fun _ => 0, ρ⟩ (fun r =>
    ∀ (c : Dev nD) (b : Ref sig .tc), r.2.mem ((c.tc : Thread nD τ).loc b) = finish m c (Proc.devRef .tc b)) :=
  run_seq scoped_none scoped_sems_none defs main (fun _ => ops) main_eq (fun _ => line_sub 3 _ ops_line) m ρ
    (fun _ => line_fresh 3 _ ops_line)

/-- Every run ends with the arguments as they were and every counter at zero. -/
theorem run_quiet : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h =>
    ⟨fun c => ⟨(h c main_arg0).trans (finish_low m c _ (by decide)), (h c main_arg1).trans (finish_low m c _ (by decide)),
      (h c main_arg2).trans (finish_low m c _ (by decide))⟩, sem_eq_zero_of_no_sems (by decide) _⟩) (run_finish m ρ)

end Cert.ReferenceIdeal.Hand
-- ==== Proof.Draw.lean ====
/- The draw, one choice at a time: the random word of a counter, its score over the extended reals, the first best. -/
module

public import Idealize.ShloMosaic.PureOps.Ideal.Laws

@[expose] public section

noncomputable section

namespace Cert.Draw

open Idealize.ShloMosaic

/-- One mixing round: the sum, and the second word rotated by `l` (and `r`, its complement) xor the sum. -/
def turned (l r : BitVec 32) (p : BitVec 32 × BitVec 32) : BitVec 32 × BitVec 32 :=
  (IntOp.addi p.1 p.2,
    IntOp.xori (IntOp.ori (IntOp.shli .vector p.2 l) (IntOp.shrui .vector p.2 r)) (IntOp.addi p.1 p.2))

/-- One key injection: `k` into the first word, `k'` and the number `n` into the second. -/
def stirred (k k' n : BitVec 32) (p : BitVec 32 × BitVec 32) : BitVec 32 × BitVec 32 :=
  (IntOp.addi p.1 k, IntOp.addi (IntOp.addi p.2 k') n)

/-- The four rounds of an odd group. -/
def odd (p : BitVec 32 × BitVec 32) : BitVec 32 × BitVec 32 :=
  turned 6#32 26#32 (turned 26#32 6#32 (turned 15#32 17#32 (turned 13#32 19#32 p)))

/-- The four rounds of an even group. -/
def even (p : BitVec 32 × BitVec 32) : BitVec 32 × BitVec 32 :=
  turned 24#32 8#32 (turned 16#32 16#32 (turned 29#32 3#32 (turned 17#32 15#32 p)))

/-- The twenty rounds with their five injections of the key `a`, `b` and its third word `d`. -/
def mixed (a b d : BitVec 32) (p : BitVec 32 × BitVec 32) : BitVec 32 × BitVec 32 :=
  stirred d a 5#32 (odd (stirred b d 4#32 (even (stirred a b 3#32 (odd (stirred d a 2#32 (even (stirred b d 1#32 (odd p)))))))))

/-- The random word of the counter `n` (with the key already added). -/
def word (n : BitVec 32) : BitVec 32 :=
  IntOp.xori (mixed 0#32 42#32 466689008#32 (0#32, n)).1 (mixed 0#32 42#32 466689008#32 (0#32, n)).2

/-- A left shift by less than the width is the same on the host. -/
theorem shl_host (x l : BitVec 32) (h : l.toNat < 32) : IntOp.shli .host x l = IntOp.shli .vector x l := by
  unfold IntOp.shli; rw [if_pos h, if_pos h]

/-- A right shift by less than the width is the same on the host. -/
theorem shr_host (x l : BitVec 32) (h : l.toNat < 32) : IntOp.shrui .host x l = IntOp.shrui .vector x l := by
  unfold IntOp.shrui; rw [if_pos h, if_pos h]

/-- The float in `[1, 2)` a random word makes. -/
def unit (b : BitVec 32) : EReal :=
  Ideal.ofBits .f32 (IntOp.ori (IntOp.shrui .vector b 9#32) 1065353216#32)

/-- The smallest normal float. -/
def tiny : EReal := Ideal.ofBits .f32 0x00800000#32

/-- The noise a random word makes. -/
def noise (b : BitVec 32) : EReal :=
  -Ideal.log (-Ideal.log (unit b - 1 + tiny))

/-- The score of weight `p` at counter `n`. -/
def score (n : BitVec 32) (p : EReal) : EReal :=
  noise (word n) + Ideal.log (max p (Ideal.ofBits .f32 0x0DA24260#32))

/-- The zero pattern is zero. -/
theorem ofBits_zero : Ideal.ofBits .f32 0x00000000#32 = 0 := by
  simp [Ideal.ofBits, Ideal.ieee]

/-- The pattern of one is one. -/
theorem ofBits_one : Ideal.ofBits .f32 0x3F800000#32 = 1 := by
  simp [Ideal.ofBits, Ideal.ieee, -EReal.coe_mul]; norm_num

/-- The pattern of minus one is minus one. -/
theorem ofBits_neg_one : Ideal.ofBits .f32 0xBF800000#32 = -1 := by
  simp [Ideal.ofBits, Ideal.ieee, -EReal.coe_mul]; norm_num

/-- The pattern of minus infinity is the bottom. -/
theorem ofBits_bot : Ideal.ofBits .f32 0xFF800000#32 = ⊥ := by
  simp [Ideal.ofBits, Ideal.ieee]

/-- The smallest normal float as a real. -/
theorem tiny_eq : tiny = (((2 : ℝ) ^ (-126 : ℤ) : ℝ) : EReal) := by
  unfold tiny
  simp [Ideal.ofBits, Ideal.ieee, -EReal.coe_mul]; norm_num

/-- The clamp of the weights is positive. -/
theorem clamp_pos : (0 : EReal) < Ideal.ofBits .f32 0x0DA24260#32 := by
  simp [Ideal.ofBits, Ideal.ieee, -EReal.coe_mul]

/-- What is left of the random word has no bit of the exponent. -/
theorem low_bits (b : BitVec 32) : (IntOp.ori (IntOp.shrui .vector b 9#32) 1065353216#32).extractLsb' 31 1 = 0#1
    ∧ (IntOp.ori (IntOp.shrui .vector b 9#32) 1065353216#32).extractLsb' 23 8 = 127#8 := by
  have e : IntOp.ori (IntOp.shrui .vector b 9#32) 1065353216#32 = (b >>> 9) ||| 1065353216#32 := rfl
  rw [e]
  constructor
  · ext i hi
    have : i = 0 := by omega
    subst this
    simp
  · ext i hi
    interval_cases i <;> simp

/-- The float of a random word: one and a fraction. -/
theorem unit_eq (b : BitVec 32) : ∃ k : ℕ, k < 2 ^ 23 ∧ unit b = (((1 : ℝ) + k / 2 ^ 23 : ℝ) : EReal) := by
  refine ⟨((IntOp.ori (IntOp.shrui .vector b 9#32) 1065353216#32).extractLsb' 0 23).toNat, BitVec.isLt _, ?_⟩
  obtain ⟨h1, h2⟩ := low_bits b
  unfold unit Ideal.ofBits Ideal.ieee
  simp only [h1, h2]
  generalize ((IntOp.ori (IntOp.shrui .vector b 9#32) 1065353216#32).extractLsb' 0 23).toNat = k
  rw [if_neg (by decide), if_neg (by decide)]
  congr 1
  have e : ((127#8).toNat : ℤ) - (2 ^ (8 - 1) - 1) - ((23 : ℕ) : ℤ) = -23 := by decide
  rw [e, if_neg (by decide), zpow_neg]
  push_cast
  norm_num
  ring

/-- The uniform draw lies strictly between zero and one. -/
theorem draw_between (b : BitVec 32) : ∃ u : ℝ, 0 ≤ u ∧ u + (2 : ℝ) ^ (-126 : ℤ) < 1 ∧ unit b - 1 = (u : EReal) := by
  obtain ⟨k, hk, e⟩ := unit_eq b
  refine ⟨k / 2 ^ 23, by positivity, ?_, ?_⟩
  · have h1 : (k : ℝ) ≤ 2 ^ 23 - 1 := by
      have : k + 1 ≤ 2 ^ 23 := hk
      have : ((k + 1 : ℕ) : ℝ) ≤ ((2 ^ 23 : ℕ) : ℝ) := by exact_mod_cast this
      push_cast at this
      linarith
    have h2 : (k : ℝ) / 2 ^ 23 ≤ 1 - 1 / 2 ^ 23 := by
      rw [div_le_iff₀ (by positivity)]; norm_num at h1 ⊢; linarith
    have h3 : (2 : ℝ) ^ (-126 : ℤ) < 1 / 2 ^ 23 := by norm_num
    linarith
  · rw [e, show (1 : EReal) = ((1 : ℝ) : EReal) from rfl, ← EReal.coe_sub]
    congr 1
    ring

/-- The noise is a real number. -/
theorem noise_real (b : BitVec 32) : ∃ r : ℝ, noise b = (r : EReal) := by
  obtain ⟨u, h0, h1, e⟩ := draw_between b
  have hp : (0 : ℝ) < (2 : ℝ) ^ (-126 : ℤ) := by positivity
  unfold noise
  rw [e, tiny_eq, ← EReal.coe_add]
  have hl : Real.log (u + (2 : ℝ) ^ (-126 : ℤ)) < 0 := Real.log_neg (by linarith) h1
  refine ⟨-Real.log (-Real.log (u + (2 : ℝ) ^ (-126 : ℤ))), ?_⟩
  have e1 : Ideal.log ((u + (2 : ℝ) ^ (-126 : ℤ) : ℝ) : EReal) = ((Real.log (u + (2 : ℝ) ^ (-126 : ℤ)) : ℝ) : EReal) :=
    if_neg (by linarith)
  rw [e1, ← EReal.coe_neg]
  have e2 : Ideal.log ((-Real.log (u + (2 : ℝ) ^ (-126 : ℤ)) : ℝ) : EReal)
      = ((Real.log (-Real.log (u + (2 : ℝ) ^ (-126 : ℤ))) : ℝ) : EReal) := if_neg (by linarith)
  rw [e2, ← EReal.coe_neg]

/-- The draw with the smallest float added is not below it. -/
theorem draw_tiny (b : BitVec 32) : max tiny ((unit b - 1) * 1 + tiny) = unit b - 1 + tiny := by
  obtain ⟨u, h0, -, e⟩ := draw_between b
  rw [mul_one, e, tiny_eq, ← EReal.coe_add]
  refine max_eq_right (EReal.coe_le_coe_iff.mpr ?_)
  linarith

/-- The logarithm of a positive extended real is not the bottom. -/
theorem log_ne_bot {x : EReal} (h : 0 < x) : Ideal.log x ≠ ⊥ := by
  induction x using EReal.rec with
  | bot => simp at h
  | top => exact top_ne_bot
  | coe r =>
    have hr : 0 < r := EReal.coe_pos.mp h
    have : Ideal.log (r : EReal) = ((Real.log r : ℝ) : EReal) := if_neg (not_le.mpr hr)
    rw [this]
    exact EReal.coe_ne_bot _

/-- A score is above the bottom. -/
theorem score_pos (n : BitVec 32) (p : EReal) : ⊥ < score n p := by
  obtain ⟨r, e⟩ := noise_real (word n)
  unfold score
  rw [e, bot_lt_iff_ne_bot, Ne, EReal.add_eq_bot_iff, not_or]
  exact ⟨EReal.coe_ne_bot _, log_ne_bot (lt_max_of_lt_right clamp_pos)⟩

/-- The kernel's way of writing the noise. -/
theorem noise_sub (b : BitVec 32) : 0 - Ideal.log (0 - Ideal.log (unit b - 1 + tiny)) = noise b := by
  unfold noise; rw [zero_sub, zero_sub]

/-- Place `k` is the first of the best of `n` scores. -/
def FirstBest {n : ℕ} (s : Fin n → EReal) (k : Fin n) : Prop := ∀ j, s j ≤ s k ∧ (s j = s k → k ≤ j)

/-- The scores of row `r`, whose weights are `p`. -/
def rowScore (p : Fin 100000 → EReal) (r : ℕ) (k : Fin 100000) : EReal :=
  score (IntOp.addi (BitVec.ofNat 32 (100000 * r + k.val)) 42#32) (p k)

/-- The row's second result, whose weights are `p`, when place `K` is drawn: the odds against at `K`, the odds for elsewhere. -/
def rowOdds (p : Fin 100000 → EReal) (K k : Fin 100000) : EReal :=
  if k = K then Ideal.div (1 - p k) (max (p k) (Ideal.ofBits .f32 0x2EDBE6FF#32))
  else Ideal.div (p k) (max (1 - p k) (Ideal.ofBits .f32 0x2EDBE6FF#32))

end Cert.Draw
-- ==== Proof.RefWord.lean ====
/- The reference's random words, place by place. -/
module

public import proofs.«01_k».proof.Proof.RefRun
public import proofs.«01_k».proof.Proof.Draw

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal Cert.ReferenceIdeal.Gen Cert.Draw

variable {F : FTy → Type} [FloatOps F]

local notation "Op" => HloOp τ sig (Elt F)

variable {R : Valuation τ sig (Elt F)}

/-- The one place of a scalar. -/
abbrev at0 : S_.Idx := fun a => a.elim0

/-- A scalar spread over all places reads as the scalar. -/
theorem all_apply {e : EltTy} (x : (⟨S_, e⟩ : BufTy).Contents (Elt F)) (i : S128x100000.Idx) : all x i = x at0 := by
  show x _ = x _
  congr 1
  funext a
  exact a.elim0

/-- A spread word. -/
theorem words_val {w : BitVec 32} {c : K} {v : W} (h : (words w c v : List Op).Forall (Holds R)) (i : S128x100000.Idx) :
    val R v i = w := by
  obtain ⟨h1, h2⟩ := h
  rw [holds_unary h2, holds_nullary h1, all_apply]
  rfl

/-- A spread float. -/
theorem floats_val {w : BitVec 32} {c : C} {v : X} (h : (floats w c v : List Op).Forall (Holds R)) (i : S128x100000.Idx) :
    val R v i = FloatOps.ofBits .f32 w := by
  obtain ⟨h1, h2⟩ := h
  rw [holds_unary h2, holds_nullary h1, all_apply]
  rfl

/-- A mixing round's equations. -/
theorem turn_val {x y : W} {l r : BitVec 32} {s : W} {cl : K} {bl sl : W} {cr : K} {br sr o z : W}
    (h : (turn x y l r s cl bl sl cr br sr o z : List Op).Forall (Holds R)) (hl : l.toNat < 32) (hr : r.toNat < 32)
    (i : S128x100000.Idx) : (val R s i, val R z i) = turned l r (val R x i, val R y i) := by
  obtain ⟨h1, h2, h3, h4, h5, h6, h7, h8, h9⟩ := h
  have bl' : val R bl i = l := words_val (w := l) (c := cl) ⟨h2, h3⟩ i
  have br' : val R br i = r := words_val (w := r) (c := cr) ⟨h5, h6⟩ i
  have es : val R s i = IntOp.addi (val R x i) (val R y i) := by rw [holds_binary h1]; rfl
  have esl : val R sl i = IntOp.shli .vector (val R y i) l := by
    rw [holds_binary h4, ← shl_host _ _ hl, ← bl']; rfl
  have esr : val R sr i = IntOp.shrui .vector (val R y i) r := by
    rw [holds_binary h7, ← shr_host _ _ hr, ← br']; rfl
  have eo : val R o i = IntOp.ori (val R sl i) (val R sr i) := by rw [holds_binary h8]; rfl
  have ez : val R z i = IntOp.xori (val R o i) (val R s i) := by
    rw [holds_binary h9]
    exact BitVec.xor_comm _ _
  rw [ez, eo, esl, esr, es]
  rfl

/-- A key injection's equations. -/
theorem stir_val {x y : W} {k k' : K} {n : BitVec 32} {b x' b' t : W} {c : K} {bn y' : W}
    (h : (stir x y k k' n b x' b' t c bn y' : List Op).Forall (Holds R)) (i : S128x100000.Idx) :
    (val R x' i, val R y' i) = stirred (val R k at0) (val R k' at0) n (val R x i, val R y i) := by
  obtain ⟨h1, h2, h3, h4, h5, h6, h7⟩ := h
  have bn' : val R bn i = n := words_val (w := n) (c := c) ⟨h5, h6⟩ i
  have eb : val R b i = val R k at0 := by rw [holds_unary h1, all_apply]
  have eb' : val R b' i = val R k' at0 := by rw [holds_unary h3, all_apply]
  have ex : val R x' i = IntOp.addi (val R x i) (val R b i) := by rw [holds_binary h2]; rfl
  have et : val R t i = IntOp.addi (val R y i) (val R b' i) := by rw [holds_binary h4]; rfl
  have ey : val R y' i = IntOp.addi (val R t i) (val R bn i) := by rw [holds_binary h7]; rfl
  rw [ex, ey, et, eb, eb', bn']
  rfl

/-- The random-word function's equations: its two results mix the counter's words with the key. -/
theorem random_val {a0 a1 : K} {a2 a3 : W} {φ : fn_threefry2x32.Bufs} (h : (randomOps a0 a1 a2 a3 φ : List Op).Forall (Holds R))
    (i : S128x100000.Idx) : (val R φ.v171 i, val R φ.v175 i)
      = mixed (val R a0 at0) (val R a1 at0) (IntOp.xori (IntOp.xori (val R a0 at0) (val R a1 at0)) 466688986#32)
        (IntOp.addi (val R a2 i) (val R a0 at0), IntOp.addi (val R a3 i) (val R a1 at0)) := by
  unfold randomOps at h
  obtain ⟨h0, h⟩ := List.forall_append.mp h
  obtain ⟨t1, h⟩ := List.forall_append.mp h
  obtain ⟨t2, h⟩ := List.forall_append.mp h
  obtain ⟨t3, h⟩ := List.forall_append.mp h
  obtain ⟨t4, h⟩ := List.forall_append.mp h
  obtain ⟨s1, h⟩ := List.forall_append.mp h
  obtain ⟨t5, h⟩ := List.forall_append.mp h
  obtain ⟨t6, h⟩ := List.forall_append.mp h
  obtain ⟨t7, h⟩ := List.forall_append.mp h
  obtain ⟨t8, h⟩ := List.forall_append.mp h
  obtain ⟨s2, h⟩ := List.forall_append.mp h
  obtain ⟨t9, h⟩ := List.forall_append.mp h
  obtain ⟨t10, h⟩ := List.forall_append.mp h
  obtain ⟨t11, h⟩ := List.forall_append.mp h
  obtain ⟨t12, h⟩ := List.forall_append.mp h
  obtain ⟨s3, h⟩ := List.forall_append.mp h
  obtain ⟨t13, h⟩ := List.forall_append.mp h
  obtain ⟨t14, h⟩ := List.forall_append.mp h
  obtain ⟨t15, h⟩ := List.forall_append.mp h
  obtain ⟨t16, h⟩ := List.forall_append.mp h
  obtain ⟨s4, h⟩ := List.forall_append.mp h
  obtain ⟨t17, h⟩ := List.forall_append.mp h
  obtain ⟨t18, h⟩ := List.forall_append.mp h
  obtain ⟨t19, h⟩ := List.forall_append.mp h
  obtain ⟨t20, h⟩ := List.forall_append.mp h
  have s5 := h
  obtain ⟨g1, g2, g3, g4, g5, g6, g7⟩ := h0
  have ek : val R φ.v1 at0 = IntOp.xori (IntOp.xori (val R a0 at0) (val R a1 at0)) 466688986#32 := by
    rw [holds_binary g3, holds_binary g1, holds_nullary g2]; rfl
  have e3 : val R φ.v3 i = IntOp.addi (val R a2 i) (val R a0 at0) := by
    rw [holds_binary g5, ← all_apply (val R a0) i, ← holds_unary g4]; rfl
  have e5 : val R φ.v5 i = IntOp.addi (val R a3 i) (val R a1 at0) := by
    rw [holds_binary g7, ← all_apply (val R a1) i, ← holds_unary g6]; rfl
  rw [stir_val s5, turn_val t20 (by decide) (by decide), turn_val t19 (by decide) (by decide), turn_val t18 (by decide) (by decide),
    turn_val t17 (by decide) (by decide), stir_val s4, turn_val t16 (by decide) (by decide), turn_val t15 (by decide) (by decide),
    turn_val t14 (by decide) (by decide), turn_val t13 (by decide) (by decide), stir_val s3, turn_val t12 (by decide) (by decide),
    turn_val t11 (by decide) (by decide), turn_val t10 (by decide) (by decide), turn_val t9 (by decide) (by decide), stir_val s2,
    turn_val t8 (by decide) (by decide), turn_val t7 (by decide) (by decide), turn_val t6 (by decide) (by decide),
    turn_val t5 (by decide) (by decide), stir_val s1, turn_val t4 (by decide) (by decide), turn_val t3 (by decide) (by decide),
    turn_val t2 (by decide) (by decide), turn_val t1 (by decide) (by decide), ek, e3, e5]
  rfl

end Cert.ReferenceIdeal.Hand
-- ==== Proof.RefScore.lean ====
/- The reference's scores, place by place, over the extended reals. -/
module

public import proofs.«01_k».proof.Proof.RefWord

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal Cert.ReferenceIdeal.Gen Cert.Draw

local notation "Op" => HloOp τ sig (Elt Ideal)

variable {R : Valuation τ sig (Elt Ideal)}

/-- The number of a place. -/
def placeNo (i : S128x100000.Idx) : ℕ := 100000 * (i 0).val + (i 1).val

/-- A place's number fits a word. -/
theorem placeNo_lt (i : S128x100000.Idx) : placeNo i < 12800000 := by
  have h0 : (i 0).val < 128 := (i 0).isLt
  have h1 : (i 1).val < 100000 := (i 1).isLt
  unfold placeNo; omega

/-- The key, the counters and the clamped logarithms. -/
theorem count_val (h : (countOps : List Op).Forall (Holds R)) (i : S128x100000.Idx) :
    val R (.of main_v11 : K) at0 = 0#32 ∧ val R (.of main_v13 : K) at0 = 42#32
      ∧ val R (.of main_v24 : W) i = 0#32 ∧ val R (.of main_v23 : W) i = BitVec.ofNat 32 (placeNo i)
      ∧ val R (.of main_v9 : X) i = Ideal.log (max (val R (.of main_arg0 : X) i) (Ideal.ofBits .f32 0x0DA24260#32)) := by
  simp only [countOps, List.forall_append] at h
  obtain ⟨⟨⟨g1, g2, g3, g4, g5, g6, g7, g8, g9, g10⟩, gf⟩, g13, g14, g15, g16, g17, g18, g19, g20, g21, g22, g23, g24, g25, g26, g27,
    g28, g29, g30, g31, g32⟩ := h
  have e6 := holds_binary g10
  rw [holds_unary g5, holds_unary g4, holds_binary g3, holds_nullary g1, holds_nullary g2, holds_unary g9, holds_unary g8,
    holds_binary g7, holds_nullary g1, holds_nullary g6] at e6
  have e20 : val R (.of main_v20 : TRef sig ⟨S128x100000, .i64⟩) i = BitVec.ofNat 64 (placeNo i) := by
    rw [holds_binary g27, holds_binary g23, holds_binary g26, holds_unary g22, holds_unary g25, holds_nullary g21, holds_nullary g24,
      holds_nullary g19, holds_nullary g20]
    show 100000#64 * BitVec.ofNat 64 (i 0).val + 1#64 * BitVec.ofNat 64 (i 1).val = _
    unfold placeNo
    rw [BitVec.one_mul, BitVec.ofNat_add, BitVec.ofNat_mul]
  have hlt := placeNo_lt i
  refine ⟨?_, ?_, ?_, ?_, ?_⟩
  · rw [holds_reshape g16, holds_unary g15, e6]; rfl
  · rw [holds_reshape g18, holds_unary g17, e6]; rfl
  · have e22 : val R (.of main_v22 : TRef sig ⟨S128x100000, .i64⟩) i = IntOp.shrui .host (BitVec.ofNat 64 (placeNo i)) 32#64 := by
      rw [← e20, holds_binary g30, holds_unary g29, holds_nullary g28]; rfl
    have e24 : val R (.of main_v24 : W) i = (val R (.of main_v22 : TRef sig ⟨S128x100000, .i64⟩) i).truncate 32 := by
      rw [holds_unary g32]; rfl
    rw [e24, e22]
    apply BitVec.eq_of_toNat_eq
    simp [IntOp.shrui, Nat.shiftRight_eq_div_pow]
    omega
  · have e23 : val R (.of main_v23 : W) i = (val R (.of main_v20 : TRef sig ⟨S128x100000, .i64⟩) i).truncate 32 := by
      rw [holds_unary g31]; rfl
    rw [e23, e20]
    apply BitVec.eq_of_toNat_eq
    simp
  · have k7 : val R (.of main_v7 : X) i = Ideal.ofBits .f32 0x0DA24260#32 := floats_val gf i
    rw [holds_unary g14, ← k7]
    show Ideal.log (val R (.of main_v8 : X) i) = _
    rw [holds_binary g13]
    rfl

/-- The scores from the random words. -/
theorem score_val (h : (scoreOps : List Op).Forall (Holds R)) (i : S128x100000.Idx) :
    val R (.of main_v44 : X) i
      = noise (IntOp.xori (val R (.of main_v25_0 : W) i) (val R (.of main_v25_1 : W) i)) + val R (.of main_v9 : X) i := by
  simp only [scoreOps, List.forall_append] at h
  obtain ⟨⟨⟨⟨⟨⟨⟨⟨⟨⟨⟨⟨g1, w1⟩, g2⟩, w2⟩, g3, g4⟩, f1⟩, g5⟩, f2⟩, g6⟩, f3⟩, g7⟩, f4⟩, g8, g9, g10, g11, g12, g13⟩ := h
  have e26 : val R (.of main_v26 : W) i = IntOp.xori (val R (.of main_v25_0 : W) i) (val R (.of main_v25_1 : W) i) := by
    rw [holds_binary g1]; rfl
  have e28 : val R (.of main_v28 : W) i = IntOp.shrui .vector (val R (.of main_v26 : W) i) 9#32 := by
    rw [← shr_host _ _ (by decide), holds_binary g2, ← words_val w1 i]; rfl
  have e30 : val R (.of main_v30 : W) i = IntOp.ori (val R (.of main_v28 : W) i) 1065353216#32 := by
    rw [holds_binary g3, ← words_val w2 i]; rfl
  have e31 : val R (.of main_v31 : X) i = unit (val R (.of main_v26 : W) i) := by
    rw [holds_unary g4]
    show Ideal.ofBits .f32 (val R (.of main_v30 : W) i) = _
    rw [e30, e28]; rfl
  have k1 : val R (.of main_v32 : X) i = (1 : EReal) := (floats_val f1 i).trans ofBits_one
  have k2 : val R (.of main_v34 : X) i = (1 : EReal) := (floats_val f2 i).trans ofBits_one
  have k3 : val R (.of main_v36 : X) i = tiny := floats_val f3 i
  have k4 : val R (.of main_v38 : X) i = tiny := floats_val f4 i
  have e33 : val R (.of main_v33 : X) i = unit (val R (.of main_v26 : W) i) - 1 := by
    rw [← e31, ← k1, holds_binary g5]; rfl
  have e35 : val R (.of main_v35 : X) i = (unit (val R (.of main_v26 : W) i) - 1) * 1 := by
    rw [← e33, ← k2, holds_binary g6]; rfl
  have e37 : val R (.of main_v37 : X) i = (unit (val R (.of main_v26 : W) i) - 1) * 1 + tiny := by
    rw [← e35, ← k3, holds_binary g7]; rfl
  have e39 : val R (.of main_v39 : X) i = unit (val R (.of main_v26 : W) i) - 1 + tiny := by
    rw [← draw_tiny, ← e37, holds_binary g8]
    show max (val R (.of main_v38 : X) i) _ = _
    rw [k4]
  have e40 : val R (.of main_v40 : X) i = Ideal.log (val R (.of main_v39 : X) i) := by rw [holds_unary g9]; rfl
  have e41 : val R (.of main_v41 : X) i = -(val R (.of main_v40 : X) i : EReal) := by rw [holds_unary g10]; rfl
  have e42 : val R (.of main_v42 : X) i = Ideal.log (val R (.of main_v41 : X) i) := by rw [holds_unary g11]; rfl
  have e43 : val R (.of main_v43 : X) i = -(val R (.of main_v42 : X) i : EReal) := by rw [holds_unary g12]; rfl
  have e44 : val R (.of main_v44 : X) i = (val R (.of main_v43 : X) i + val R (.of main_v9 : X) i : EReal) := by
    rw [holds_binary g13]; rfl
  rw [e44, e43, e42, e41, e40, e39, e26]
  rfl

/-- The score of every place. -/
theorem place_score (hc : (countOps : List Op).Forall (Holds R))
    (hr : (randomOps (.of main_v11) (.of main_v13) (.of main_v24) (.of main_v23) main_call0 : List Op).Forall (Holds R))
    (hs : (scoreOps : List Op).Forall (Holds R)) (i : S128x100000.Idx) :
    val R (.of main_v44 : X) i
      = score (IntOp.addi (BitVec.ofNat 32 (placeNo i)) 42#32) (val R (.of main_arg0 : X) i) := by
  obtain ⟨c1, c2, c3, c4, c5⟩ := count_val hc i
  have e := random_val hr i
  rw [c1, c2, c3, c4] at e
  obtain ⟨e1, e2⟩ := Prod.mk.inj e
  have f1 : val R (.of main_v25_0 : W) i = _ := e1
  have f2 : val R (.of main_v25_1 : W) i = _ := e2
  rw [score_val hs i, f1, f2, c5]
  rfl

end Cert.ReferenceIdeal.Hand
-- ==== Proof.RefBest.lean ====
/- The reference's two results, row by row, over the extended reals. -/
module

public import proofs.«01_k».proof.Proof.RefScore
public import Idealize.ShloMosaic.Lib.ValueIdx

@[expose] public section

set_option maxRecDepth 16384

noncomputable section

namespace Cert.ReferenceIdeal.Hand

open Idealize.ShloMosaic Idealize.ShloMosaic.TcCoe Idealize.ShloMosaic.StableHlo Idealize.SL.Sem
open Idealize.ShloMosaic.ValueIdx Cert.ReferenceIdeal Cert.ReferenceIdeal.Gen Cert.Draw

local notation "Op" => HloOp τ sig (Elt Ideal)

variable {R : Valuation τ sig (Elt Ideal)}

/-- One value with its place is no better than another: less, or as large with no smaller place. -/
def NoBetter (a b : EReal × BitVec 32) : Prop := a.1 < b.1 ∨ (a.1 = b.1 ∧ b.2.toInt ≤ a.2.toInt)

/-- A pair is no better than itself. -/
theorem NoBetter.self (a : EReal × BitVec 32) : NoBetter a a := .inr ⟨rfl, le_refl _⟩

/-- No better is transitive. -/
theorem NoBetter.trans {a b c : EReal × BitVec 32} (h : NoBetter a b) (h' : NoBetter b c) : NoBetter a c := by
  rcases h with h | ⟨h, g⟩ <;> rcases h' with h' | ⟨h', g'⟩
  · exact .inl (h.trans h')
  · exact .inl (h' ▸ h)
  · exact .inl (h ▸ h')
  · exact .inr ⟨h.trans h', g'.trans g⟩

/-- The reducer takes the better pair. -/
theorem reducer_eq (a b : EReal × BitVec 32) : reducer_argmax_f32_i32 (F := Ideal) a b
    = if b.1 < a.1 ∨ (a.1 = b.1 ∧ a.2.toInt < b.2.toInt) then a else b := by
  obtain ⟨x, n⟩ := a
  obtain ⟨y, m⟩ := b
  show (Scalar.select (IntOp.ori (BitVec.ofBool (decide (y < x))) (BitVec.ofBool (decide (x ≠ x)))) x y,
    Scalar.select (IntOp.ori (IntOp.ori (BitVec.ofBool (decide (y < x))) (BitVec.ofBool (decide (x ≠ x))))
      (IntOp.andi (BitVec.ofBool (decide (x = y))) (BitVec.ofBool (n.slt m)))) n m) = _
  rw [decide_eq_false (fun h : x ≠ x => h rfl)]
  by_cases h1 : y < x
  · rw [decide_eq_true h1, if_pos (.inl h1)]
    cases h2 : decide (x = y) <;> cases h3 : n.slt m <;> rfl
  · rw [decide_eq_false h1]
    by_cases h2 : x = y
    · rw [decide_eq_true h2]
      by_cases h3 : n.toInt < m.toInt
      · rw [if_pos (.inr ⟨h2, h3⟩), (BitVec.slt_iff_toInt_lt).mpr h3, h2]; rfl
      · rw [if_neg (fun h => h.elim h1 (fun g => h3 g.2)), Bool.eq_false_iff.mpr (fun g => h3 (BitVec.slt_iff_toInt_lt.mp g))]; rfl
    · rw [decide_eq_false h2, if_neg (fun h => h.elim h1 (fun g => h2 g.1))]
      cases h3 : n.slt m <;> rfl

/-- What the reducer takes is one of the two, and neither is better. -/
theorem reducer_best (a b : EReal × BitVec 32) :
    (reducer_argmax_f32_i32 (F := Ideal) a b = a ∨ reducer_argmax_f32_i32 (F := Ideal) a b = b)
      ∧ NoBetter a (reducer_argmax_f32_i32 (F := Ideal) a b) ∧ NoBetter b (reducer_argmax_f32_i32 (F := Ideal) a b) := by
  rw [reducer_eq]
  split_ifs with h
  · refine ⟨.inl rfl, .self a, ?_⟩
    rcases h with h | ⟨h, g⟩
    · exact .inl h
    · exact .inr ⟨h.symm, g.le⟩
  · refine ⟨.inr rfl, ?_, .self b⟩
    rw [not_or, not_and, not_lt, not_lt] at h
    rcases h.1.lt_or_eq with g | g
    · exact .inl g
    · exact .inr ⟨g, h.2 g⟩

/-- The fold takes one of the pairs, and none is better. -/
theorem fold_best : ∀ (l : List (EReal × BitVec 32)) (e : EReal × BitVec 32),
    (l.foldl (reducer_argmax_f32_i32 (F := Ideal)) e = e ∨ l.foldl (reducer_argmax_f32_i32 (F := Ideal)) e ∈ l)
      ∧ NoBetter e (l.foldl (reducer_argmax_f32_i32 (F := Ideal)) e)
      ∧ ∀ q ∈ l, NoBetter q (l.foldl (reducer_argmax_f32_i32 (F := Ideal)) e)
  | [], e => ⟨.inl rfl, .self e, fun q hq => by simp at hq⟩
  | b :: l, e => by
    obtain ⟨h1, h2, h3⟩ := fold_best l (reducer_argmax_f32_i32 (F := Ideal) e b)
    obtain ⟨g1, g2, g3⟩ := reducer_best e b
    rw [List.foldl_cons]
    refine ⟨?_, g2.trans h2, fun q hq => ?_⟩
    · rcases h1 with h1 | h1
      · rcases g1 with g1 | g1
        · exact .inl (h1.trans g1)
        · exact .inr (List.mem_cons.mpr (.inl (h1.trans g1)))
      · exact .inr (List.mem_cons_of_mem _ h1)
    · rcases List.mem_cons.mp hq with rfl | hq
      · exact g3.trans h2
      · exact h3 q hq

/-- A place below a hundred thousand, read as a signed word. -/
theorem place_toInt (k : Fin 100000) : (BitVec.ofNat 32 k.val).toInt = k.val := by
  have hk := k.isLt
  rw [BitVec.toInt_eq_toNat_of_lt (by simp; omega)]
  simp; omega

/-- The fiber of a row holds every place of the row, and nothing else. -/
theorem mem_row (x : FVec Ideal S128x100000 .f32) (h : S128x100000.ReducesTo [1] S128) (j : S128.Idx) (q : EReal × BitVec 32) :
    q ∈ Host.argReduceFiber x (iotaInDim S128x100000 32 1) h j
      ↔ ∃ k : Fin 100000, q = (x (ix2 (n0 := 128) (n1 := 100000) (j 0) k), BitVec.ofNat 32 k.val) := by
  have hd : ∀ i : S128x100000.Idx, (h.drop i 0 : ℕ) = i 0 := fun i => h.drop_apply_val_of_eq i 0 0
  unfold Host.argReduceFiber
  rw [List.mem_map]
  constructor
  · rintro ⟨n, hn, rfl⟩
    have e := of_decide_eq_true (List.mem_filter.mp hn).2
    refine ⟨S128x100000.rowMajor.symm n 1, ?_⟩
    have e0 : j 0 = S128x100000.rowMajor.symm n 0 := Fin.ext (by rw [← e]; exact hd _)
    rw [e0]
    exact congrArg (fun i => (x i, BitVec.ofNat 32 (S128x100000.rowMajor.symm n 1).val)) (eq_ix2 (S128x100000.rowMajor.symm n))
  · rintro ⟨k, rfl⟩
    refine ⟨S128x100000.rowMajor (ix2 (n0 := 128) (n1 := 100000) (j 0) k), ?_, ?_⟩
    · refine List.mem_filter.mpr ⟨List.mem_finRange _, decide_eq_true ?_⟩
      rw [Equiv.symm_apply_apply]
      funext a
      obtain rfl : a = 0 := Subsingleton.elim _ _
      exact Fin.ext (hd _)
    · rw [Equiv.symm_apply_apply]
      rfl

/-- The index of a row's maximum is its first best place, when no value is the least of all. -/
theorem argmax_first (x : FVec Ideal S128x100000 .f32) (hx : ∀ i, (⊥ : EReal) < x i) (j : S128.Idx) :
    ∃ K : Fin 100000, FirstBest (fun k => x (ix2 (n0 := 128) (n1 := 100000) (j 0) k)) K
      ∧ (Host.argReduce (reducer_argmax_f32_i32 (F := Ideal)) x (iotaInDim S128x100000 32 1) (constant S_ .f32 0xFF800000#32)
          (constantI S_ 32 0#32) reducesTo_S128x100000_S128_d1 h_S_ j).2 = BitVec.ofNat 32 K.val := by
  rw [Ideal.argReduce_eq_reduce2, Host.reduce2_eq_foldl_fiber]
  obtain ⟨h1, h2, h3⟩ := fold_best (Host.argReduceFiber x (iotaInDim S128x100000 32 1) reducesTo_S128x100000_S128_d1 j)
    (Ideal.ofBits .f32 0xFF800000#32, 0#32)
  have hm := mem_row x reducesTo_S128x100000_S128_d1 j
  have ha := fun k => h3 _ ((hm _).mpr ⟨k, rfl⟩)
  have hr : ∃ K : Fin 100000, (Host.argReduceFiber x (iotaInDim S128x100000 32 1) reducesTo_S128x100000_S128_d1 j).foldl
      (reducer_argmax_f32_i32 (F := Ideal)) (Ideal.ofBits .f32 0xFF800000#32, 0#32)
        = (x (ix2 (n0 := 128) (n1 := 100000) (j 0) K), BitVec.ofNat 32 K.val) := by
    rcases h1 with h1 | h1
    · exfalso
      have g := ha 0
      rw [h1, ofBits_bot] at g
      have hb := hx (ix2 (n0 := 128) (n1 := 100000) (j 0) 0)
      rcases g with g | ⟨g, -⟩
      · exact absurd g not_lt_bot
      · exact hb.ne' g
    · exact (hm _).mp h1
  obtain ⟨K, hK⟩ := hr
  refine ⟨K, fun k => ?_, ?_⟩
  · have g := ha k
    rw [hK] at g
    rcases g with g | ⟨g, g'⟩
    · exact ⟨g.le, fun e => absurd e g.ne⟩
    · refine ⟨g.le, fun _ => ?_⟩
      have g'' : (BitVec.ofNat 32 K.val).toInt ≤ (BitVec.ofNat 32 k.val).toInt := g'
      rw [place_toInt, place_toInt] at g''
      exact Fin.le_def.mpr (by exact_mod_cast g'')
  · exact congrArg Prod.snd hK

/-- One times a value and no times another is the value. -/
theorem one_and_none (a b : EReal) : 1 * a + (1 - 1) * b = a := by
  have h : (1 - 1 : EReal) = 0 := by
    rw [← EReal.coe_one, ← EReal.coe_sub, sub_self, EReal.coe_zero]
  rw [h, one_mul, zero_mul, add_zero]

/-- No times a value and one times another is the other. -/
theorem none_and_one (a b : EReal) : 0 * a + (1 - 0) * b = b := by
  rw [sub_zero, one_mul, zero_mul, zero_add]

/-- The reference's last lines, from the index of the row's maximum. -/
theorem results_val (h : (resultOps : List Op).Forall (Holds R)) (r : Fin 128) (K : Fin 100000)
    (hK : val R (.of main_v45 : TRef sig ⟨S128, .i32⟩) (ix1 (n := 128) r) = BitVec.ofNat 32 K.val) :
    val R (.of main_v46 : TRef sig ⟨S128x1, .i32⟩) (ix2 (n0 := 128) (n1 := 1) r 0) = BitVec.ofNat 32 K.val
      ∧ ∀ k : Fin 100000, val R (.of main_v67 : X) (ix2 (n0 := 128) (n1 := 100000) r k)
        = rowOdds (fun k => val R (.of main_arg0 : X) (ix2 (n0 := 128) (n1 := 100000) r k)) K k := by
  simp only [resultOps, List.forall_append] at h
  obtain ⟨⟨⟨⟨⟨⟨⟨⟨⟨⟨⟨g1, g2, g3, g4, g5, g6, g7⟩, f1⟩, g8⟩, f2⟩, g9, g10⟩, f3⟩, g11⟩, f4⟩, g12, g13, g14⟩, f5⟩, g15, g16, g17⟩ := h
  have e46 : val R (.of main_v46 : TRef sig ⟨S128x1, .i32⟩) (ix2 (n0 := 128) (n1 := 1) r 0) = BitVec.ofNat 32 K.val := by
    rw [holds_unary g1, ← hK]
    show val R (.of main_v45 : TRef sig ⟨S128, .i32⟩) _ = _
    congr 1
    funext a
    obtain rfl : a = 0 := Subsingleton.elim _ _
    rfl
  refine ⟨e46, fun k => ?_⟩
  generalize hi : (ix2 (n0 := 128) (n1 := 100000) r k : S128x100000.Idx) = i
  have k1 : val R (.of main_v53 : X) i = (1 : EReal) := (floats_val f1 i).trans ofBits_one
  have k2 : val R (.of main_v55 : X) i = Ideal.ofBits .f32 0x2EDBE6FF#32 := floats_val f2 i
  have k3 : val R (.of main_v58 : X) i = (1 : EReal) := (floats_val f3 i).trans ofBits_one
  have k4 : val R (.of main_v60 : X) i = Ideal.ofBits .f32 0x2EDBE6FF#32 := floats_val f4 i
  have k5 : val R (.of main_v64 : X) i = (1 : EReal) := (floats_val f5 i).trans ofBits_one
  have e49 : val R (.of main_v49 : W) i = BitVec.ofNat 32 k.val := by
    rw [holds_unary g4, holds_unary g3, holds_nullary g2, ← hi]; rfl
  have e50 : val R (.of main_v50 : W) i = BitVec.ofNat 32 K.val := by
    rw [holds_unary g5, ← e46, ← hi]
    show val R (.of main_v46 : TRef sig ⟨S128x1, .i32⟩) _ = _
    congr 1
    funext a
    fin_cases a <;> rfl
  have e52 : val R (.of main_v52 : X) i = if k = K then (1 : EReal) else 0 := by
    rw [holds_unary g7, holds_binary g6]
    show (((BitVec.ofBool (val R (.of main_v49 : W) i == val R (.of main_v50 : W) i)).toNat : ℝ) : EReal) = _
    rw [e49, e50]
    by_cases e : k = K
    · rw [if_pos e, e, beq_self_eq_true]
      exact (by simp : (((1 : ℕ) : ℝ) : EReal) = 1)
    · have hk := k.isLt
      have hK := K.isLt
      rw [if_neg e, beq_eq_false_iff_ne.mpr ?_]
      · exact (by simp : (((0 : ℕ) : ℝ) : EReal) = 0)
      · intro g
        have g' := congrArg BitVec.toNat g
        simp only [BitVec.toNat_ofNat] at g'
        exact e (Fin.ext (by omega))
  have e57 : val R (.of main_v57 : X) i = Ideal.div (1 - val R (.of main_arg0 : X) i)
      (max (val R (.of main_arg0 : X) i) (Ideal.ofBits .f32 0x2EDBE6FF#32)) := by
    rw [holds_binary g10, ← k1, ← k2]
    show Ideal.div (val R (.of main_v54 : X) i) (val R (.of main_v56 : X) i) = _
    rw [holds_binary g8, holds_binary g9]; rfl
  have e62 : val R (.of main_v62 : X) i = Ideal.div (val R (.of main_arg0 : X) i)
      (max (1 - val R (.of main_arg0 : X) i) (Ideal.ofBits .f32 0x2EDBE6FF#32)) := by
    rw [holds_binary g13, ← k3, ← k4]
    show Ideal.div (val R (.of main_arg0 : X) i) (val R (.of main_v61 : X) i) = _
    rw [holds_binary g12]
    show Ideal.div _ (max (val R (.of main_v59 : X) i) _) = _
    rw [holds_binary g11]; rfl
  have e67 : val R (.of main_v67 : X) i = (val R (.of main_v52 : X) i : EReal) * (val R (.of main_v57 : X) i : EReal)
      + (1 - (val R (.of main_v52 : X) i : EReal)) * (val R (.of main_v62 : X) i : EReal) := by
    rw [holds_binary g17, ← k5]
    show (val R (.of main_v63 : X) i : EReal) + (val R (.of main_v66 : X) i : EReal) = _
    rw [holds_binary g14, holds_binary g16]
    show _ + (val R (.of main_v65 : X) i : EReal) * _ = _
    rw [holds_binary g15]; rfl
  have e : (val R (.of main_v67 : X) i : EReal) = if k = K then (val R (.of main_v57 : X) i : EReal) else (val R (.of main_v62 : X) i : EReal) := by
    rw [e67, e52]
    by_cases e : k = K
    · rw [if_pos e, if_pos e]
      exact one_and_none _ _
    · rw [if_neg e, if_neg e]
      exact none_and_one _ _
  rw [e57, e62] at e
  subst hi
  exact e

/-- The reference's results of a row: the first best place of the row's scores, and its odds. -/
theorem row_results (h : (ops : List Op).Forall (Holds R)) (r : Fin 128) :
    ∃ K : Fin 100000, FirstBest (rowScore (fun k => val R (.of main_arg0 : X) (ix2 (n0 := 128) (n1 := 100000) r k)) r.val) K
      ∧ val R (.of main_v46 : TRef sig ⟨S128x1, .i32⟩) (ix2 (n0 := 128) (n1 := 1) r 0) = BitVec.ofNat 32 K.val
      ∧ ∀ k : Fin 100000, val R (.of main_v67 : X) (ix2 (n0 := 128) (n1 := 100000) r k)
        = rowOdds (fun k => val R (.of main_arg0 : X) (ix2 (n0 := 128) (n1 := 100000) r k)) K k := by
  unfold ops at h
  obtain ⟨hc, h⟩ := List.forall_append.mp h
  obtain ⟨hr, h⟩ := List.forall_append.mp h
  obtain ⟨hs, h⟩ := List.forall_append.mp h
  obtain ⟨ha, ho⟩ := List.forall_append.mp h
  have hp := place_score hc hr hs
  have hx : ∀ i, (⊥ : EReal) < val R (.of main_v44 : X) i := fun i => by rw [hp i]; exact score_pos _ _
  obtain ⟨K, hK, eK⟩ := argmax_first (val R (.of main_v44 : X)) hx (ix1 (n := 128) r)
  obtain ⟨a1, a2, a3, a4, a5⟩ := ha
  have e45 : val R (.of main_v45 : TRef sig ⟨S128, .i32⟩) (ix1 (n := 128) r) = BitVec.ofNat 32 K.val := by
    rw [← eK]
    have e := congrFun (holds_quaternary a5) (ix1 (n := 128) r)
    rw [holds_nullary a1, holds_nullary a2, holds_nullary a3] at e
    exact e
  refine ⟨K, ?_, results_val ho r K e45⟩
  have es : (fun k => val R (.of main_v44 : X) (ix2 (n0 := 128) (n1 := 100000) ((ix1 (n := 128) r) 0) k))
      = rowScore (fun k => val R (.of main_arg0 : X) (ix2 (n0 := 128) (n1 := 100000) r k)) r.val := by
    funext k
    rw [hp]
    rfl
  rw [← es]
  exact hK

end Cert.ReferenceIdeal.Hand
-- ==== Proof.Lane.lean ====
/- One step of the sweep at one lane: the lane keeps the better of its best and the chunk's score. -/
module

public import proofs.«01_k».proof.Proof.Loop
public import proofs.«01_k».proof.Proof.Draw
public import Idealize.ShloMosaic.Lib.ValueIdx
public import Idealize.ShloMosaic.Lib.Pipeline.Value

@[expose] public section

set_option maxRecDepth 16384

noncomputable section

namespace Cert.KernelIdeal.Hand

open Idealize.ShloMosaic Idealize.SL.Sem Cert.KernelIdeal.Gen Cert.Draw

/-- What a lane carries. -/
def lane (s : Best Ideal) (i : S200x128.Idx) : EReal × BitVec 32 × EReal := (s.1 i, s.2.1 i, s.2.2 i)

/-- A lane's step: the score of weight `p` at counter `n`, against what the lane carries. -/
def better (n w : BitVec 32) (p : EReal) (s : EReal × BitVec 32 × EReal) : EReal × BitVec 32 × EReal :=
  if s.1 < score n p then (score n p, w, p) else s

/-- A mixing round of vectors is, at a lane, the round of the lane's words. -/
theorem turn_at (l r : BitVec 32) (x y : IVec S200x128 32) (i : S200x128.Idx) :
    (addi x y i, xori (ori (shli y (broadcast S200x128 l)) (shrui y (broadcast S200x128 r))) (addi x y) i)
      = turned l r (x i, y i) := rfl

/-- A key injection into vectors is, at a lane, the injection into the lane's words. -/
theorem stir_at (k k' n : BitVec 32) (x y : IVec S200x128 32) (i : S200x128.Idx) :
    (addi x (broadcast S200x128 k) i,
      addi (addi y (broadcast S200x128 k')) (broadcast S200x128 n) i) = stirred k k' n (x i, y i) := rfl

/-- The scores of a chunk, from its two mixed words and its weights. -/
def scores (x y : IVec S200x128 32) (w : FVec Ideal S200x128 .f32) : FVec Ideal S200x128 .f32 :=
  addf (subf (broadcast S200x128 (Scalar.ofBits .f32 0x00000000#32)) (log
    (subf (broadcast S200x128 (Scalar.ofBits .f32 0x00000000#32)) (log
      (addf (subf (bitcastToFloat .f32 (ori (shrui (xori x y) (broadcast S200x128 9#32)) (broadcast S200x128 1065353216#32)))
        (broadcast S200x128 (Scalar.ofBits .f32 0x3F800000#32))) (broadcast S200x128 (Scalar.ofBits .f32 0x00800000#32)))))))
    (log (maximumf w (broadcast S200x128 (Scalar.ofBits .f32 0x0DA24260#32))))

/-- A chunk's score at a lane whose two words are the mixed ones of the counter `n`. -/
theorem scores_at (x y : IVec S200x128 32) (w : FVec Ideal S200x128 .f32) (i : S200x128.Idx) (n : BitVec 32)
    (h : (x i, y i) = mixed 0#32 42#32 466689008#32 (0#32, n)) : scores x y w i = score n (w i) := by
  have hw : IntOp.xori (x i) (y i) = word n := by
    unfold word; rw [← h]
  show (Ideal.ofBits .f32 0x00000000#32 - Ideal.log (Ideal.ofBits .f32 0x00000000#32
    - Ideal.log (Ideal.ofBits .f32 (IntOp.ori (IntOp.shrui .vector (IntOp.xori (x i) (y i)) 9#32) 1065353216#32)
      - Ideal.ofBits .f32 0x3F800000#32 + tiny))) + Ideal.log (max (w i) (Ideal.ofBits .f32 0x0DA24260#32)) = _
  rw [hw, ofBits_zero, ofBits_one]
  exact congrArg (· + _) (noise_sub _)

/-- Keeping the larger score, with where it came from and its weight, is the lane's step. -/
theorem kept_at (z w v26 v28 : FVec Ideal S200x128 .f32) (v27 : IVec S200x128 32) (u : BitVec 32) (i : S200x128.Idx)
    (n : BitVec 32) (h : z i = score n (w i)) :
    lane (select (cmpf .ogt z v26) z v26, select (cmpf .ogt z v26) (broadcast S200x128 u) v27,
      select (cmpf .ogt z v26) w v28) i = better n u (w i) (v26 i, v27 i, v28 i) := by
  show (Scalar.select (BitVec.ofBool (decide (v26 i < z i))) (z i) (v26 i),
    Scalar.select (BitVec.ofBool (decide (v26 i < z i))) u (v27 i),
    Scalar.select (BitVec.ofBool (decide (v26 i < z i))) (w i) (v28 i)) = _
  rw [h]
  unfold better
  by_cases h : v26 i < score n (w i)
  · rw [if_pos h, decide_eq_true h]; rfl
  · rw [if_neg h, decide_eq_false h]; rfl

/-- The mixed words of a lane are those of its counter, whatever the vectors that hold each round. -/
theorem rounds (n : BitVec 32)
    {p0 p1 p2 p3 p4 p5 p6 p7 p8 p9 p10 p11 p12 p13 p14 p15 p16 p17 p18 p19 p20 p21 p22 p23 p24 : BitVec 32 × BitVec 32}
     (e0 : p0 = turned 13#32 19#32 (0#32, n)) (e1 : p1 = turned 15#32 17#32 p0) (e2 : p2 = turned 26#32 6#32 p1)
    (e3 : p3 = turned 6#32 26#32 p2) (e4 : p4 = stirred 42#32 466689008#32 1#32 p3) (e5 : p5 = turned 17#32 15#32 p4)
    (e6 : p6 = turned 29#32 3#32 p5) (e7 : p7 = turned 16#32 16#32 p6) (e8 : p8 = turned 24#32 8#32 p7)
    (e9 : p9 = stirred 466689008#32 0#32 2#32 p8) (e10 : p10 = turned 13#32 19#32 p9)
    (e11 : p11 = turned 15#32 17#32 p10) (e12 : p12 = turned 26#32 6#32 p11) (e13 : p13 = turned 6#32 26#32 p12)
    (e14 : p14 = stirred 0#32 42#32 3#32 p13) (e15 : p15 = turned 17#32 15#32 p14) (e16 : p16 = turned 29#32 3#32 p15)
    (e17 : p17 = turned 16#32 16#32 p16) (e18 : p18 = turned 24#32 8#32 p17)
    (e19 : p19 = stirred 42#32 466689008#32 4#32 p18) (e20 : p20 = turned 13#32 19#32 p19)
    (e21 : p21 = turned 15#32 17#32 p20) (e22 : p22 = turned 26#32 6#32 p21) (e23 : p23 = turned 6#32 26#32 p22)
    (e24 : p24 = stirred 466689008#32 0#32 5#32 p23)
    : p24 = mixed 0#32 42#32 466689008#32 (0#32, n) := by
  subst_vars
  rfl

set_option maxHeartbeats 0 in
/-- A chunk's step is, at each lane, the lane's. -/
theorem lane_keep (v12 : IVec S200x128 32) (v13 v14 off : BitVec 32) (v29 : Vec Ideal S200x128 .f32) (s : Best Ideal)
    (i : S200x128.Idx) : lane (keep v12 v13 v14 off v29 s) i
      = better (IntOp.addi (v12 i) (IntOp.addi v13 off)) (IntOp.addi v14 off) (v29 i) (lane s i) := by
  unfold keep
  extract_lets -merge v30 v26 v27 v28 v31 v32 v33 c0_i32_17 v34 v35 c13_i32 v36 v37 c19_i32 v38 v39 v40 v41 v42
    c15_i32 v43 v44 c17_i32 v45 v46 v47 v48 v49 c26_i32 v50 v51 c6_i32 v52 v53 v54 v55 v56 c6_i32_18 v57 v58
    c26_i32_19 v59 v60 v61 v62 c42_i32_20 v63 v64 c466689008_i32 v65 v66 c1_i32_21 v67 v68 v69 c17_i32_22 v70 v71
    c15_i32_23 v72 v73 v74 v75 v76 c29_i32 v77 v78 c3_i32 v79 v80 v81 v82 v83 c16_i32 v84 v85 c16_i32_24 v86 v87 v88
    v89 v90 c24_i32 v91 v92 c8_i32 v93 v94 v95 v96 c466689008_i32_25 v97 v98 c0_i32_26 v99 v100 c2_i32 v101 v102
    v103 c13_i32_27 v104 v105 c19_i32_28 v106 v107 v108 v109 v110 c15_i32_29 v111 v112 c17_i32_30 v113 v114 v115
    v116 v117 c26_i32_31 v118 v119 c6_i32_32 v120 v121 v122 v123 v124 c6_i32_33 v125 v126 c26_i32_34 v127 v128 v129
    v130 c0_i32_35 v131 v132 c42_i32_36 v133 v134 c3_i32_37 v135 v136 v137 c17_i32_38 v138 v139 c15_i32_39 v140 v141
    v142 v143 v144 c29_i32_40 v145 v146 c3_i32_41 v147 v148 v149 v150 v151 c16_i32_42 v152 v153 c16_i32_43 v154 v155
    v156 v157 v158 c24_i32_44 v159 v160 c8_i32_45 v161 v162 v163 v164 c42_i32_46 v165 v166 c466689008_i32_47 v167
    v168 c4_i32 v169 v170 v171 c13_i32_48 v172 v173 c19_i32_49 v174 v175 v176 v177 v178 c15_i32_50 v179 v180
    c17_i32_51 v181 v182 v183 v184 v185 c26_i32_52 v186 v187 c6_i32_53 v188 v189 v190 v191 v192 c6_i32_54 v193 v194
    c26_i32_55 v195 v196 v197 v198 c466689008_i32_56 v199 v200 c0_i32_57 v201 v202 c5_i32 v203 v204 v205 c9_i32 v206
    v207 c1065353216_i32 v208 v209 v210 cst v211 v212 cst_58 v213 v214 v215 cst_59 v216 v217 v218 cst_60 v219 v220
    cst_61 v221 v222 v223 v224 v225 v226 v227 v228 v229 v230
  have e30 : v30 = v29 := shapeCast_self _ _
  have e0 : (v35 i, v41 i) = turned 13#32 19#32 (0#32, v33 i) := turn_at 13#32 19#32 v34 v33 i
  have e1 : (v42 i, v48 i) = turned 15#32 17#32 (v35 i, v41 i) := turn_at 15#32 17#32 v35 v41 i
  have e2 : (v49 i, v55 i) = turned 26#32 6#32 (v42 i, v48 i) := turn_at 26#32 6#32 v42 v48 i
  have e3 : (v56 i, v62 i) = turned 6#32 26#32 (v49 i, v55 i) := turn_at 6#32 26#32 v49 v55 i
  have e4 : (v64 i, v68 i) = stirred 42#32 466689008#32 1#32 (v56 i, v62 i) := stir_at 42#32 466689008#32 1#32 v56 v62 i
  have e5 : (v69 i, v75 i) = turned 17#32 15#32 (v64 i, v68 i) := turn_at 17#32 15#32 v64 v68 i
  have e6 : (v76 i, v82 i) = turned 29#32 3#32 (v69 i, v75 i) := turn_at 29#32 3#32 v69 v75 i
  have e7 : (v83 i, v89 i) = turned 16#32 16#32 (v76 i, v82 i) := turn_at 16#32 16#32 v76 v82 i
  have e8 : (v90 i, v96 i) = turned 24#32 8#32 (v83 i, v89 i) := turn_at 24#32 8#32 v83 v89 i
  have e9 : (v98 i, v102 i) = stirred 466689008#32 0#32 2#32 (v90 i, v96 i) := stir_at 466689008#32 0#32 2#32 v90 v96 i
  have e10 : (v103 i, v109 i) = turned 13#32 19#32 (v98 i, v102 i) := turn_at 13#32 19#32 v98 v102 i
  have e11 : (v110 i, v116 i) = turned 15#32 17#32 (v103 i, v109 i) := turn_at 15#32 17#32 v103 v109 i
  have e12 : (v117 i, v123 i) = turned 26#32 6#32 (v110 i, v116 i) := turn_at 26#32 6#32 v110 v116 i
  have e13 : (v124 i, v130 i) = turned 6#32 26#32 (v117 i, v123 i) := turn_at 6#32 26#32 v117 v123 i
  have e14 : (v132 i, v136 i) = stirred 0#32 42#32 3#32 (v124 i, v130 i) := stir_at 0#32 42#32 3#32 v124 v130 i
  have e15 : (v137 i, v143 i) = turned 17#32 15#32 (v132 i, v136 i) := turn_at 17#32 15#32 v132 v136 i
  have e16 : (v144 i, v150 i) = turned 29#32 3#32 (v137 i, v143 i) := turn_at 29#32 3#32 v137 v143 i
  have e17 : (v151 i, v157 i) = turned 16#32 16#32 (v144 i, v150 i) := turn_at 16#32 16#32 v144 v150 i
  have e18 : (v158 i, v164 i) = turned 24#32 8#32 (v151 i, v157 i) := turn_at 24#32 8#32 v151 v157 i
  have e19 : (v166 i, v170 i) = stirred 42#32 466689008#32 4#32 (v158 i, v164 i) := stir_at 42#32 466689008#32 4#32 v158 v164 i
  have e20 : (v171 i, v177 i) = turned 13#32 19#32 (v166 i, v170 i) := turn_at 13#32 19#32 v166 v170 i
  have e21 : (v178 i, v184 i) = turned 15#32 17#32 (v171 i, v177 i) := turn_at 15#32 17#32 v171 v177 i
  have e22 : (v185 i, v191 i) = turned 26#32 6#32 (v178 i, v184 i) := turn_at 26#32 6#32 v178 v184 i
  have e23 : (v192 i, v198 i) = turned 6#32 26#32 (v185 i, v191 i) := turn_at 6#32 26#32 v185 v191 i
  have e24 : (v200 i, v204 i) = stirred 466689008#32 0#32 5#32 (v192 i, v198 i) := stir_at 466689008#32 0#32 5#32 v192 v198 i
  have em : (v200 i, v204 i) = mixed 0#32 42#32 466689008#32 (0#32, v33 i) :=
    rounds (v33 i) e0 e1 e2 e3 e4 e5 e6 e7 e8 e9 e10 e11 e12 e13 e14 e15 e16 e17 e18 e19 e20 e21 e22 e23 e24
  have eb := kept_at (scores v200 v204 v30) v30 v26 v28 v27 v227 i (v33 i) (scores_at v200 v204 v30 i (v33 i) em)
  exact eb.trans (congrArg (fun w => better (v33 i) v227 w (lane s i)) (congrFun e30 i))

end Cert.KernelIdeal.Hand
-- ==== Proof.Sweep.lean ====
/- What the first phase leaves in a lane, over the extended reals: the first of its best scores, with where it came from. -/
module

public import proofs.«01_k».proof.Proof.Lane
public import proofs.«01_k».proof.Proof.Arrays
public import Idealize.ShloMosaic.Lib.ValueLayout

@[expose] public section

set_option maxRecDepth 16384

noncomputable section

namespace Cert.KernelIdeal.Hand

open Idealize.ShloMosaic Idealize.ShloMosaic.TcCoe Idealize.SL.Sem Idealize.ShloMosaic.ValueIdx Cert.KernelIdeal.Gen Cert.Draw

/-- Over the chunks before `N`, whose scores are `a` and weights `q`, a lane carries the first of the best. -/
def Seen (a q : ℕ → EReal) (N : ℕ) (s : EReal × BitVec 32 × EReal) : Prop :=
  (N = 0 ∧ s.1 = ⊥) ∨ ∃ k < N, s = (a k, BitVec.ofNat 32 (200 * k), q k) ∧ ∀ j < N, a j ≤ a k ∧ (a j = a k → k ≤ j)

/-- A lane's step keeps that. -/
theorem Seen.step {a q : ℕ → EReal} {N : ℕ} {s : EReal × BitVec 32 × EReal} (hs : Seen a q N s) (n : BitVec 32)
    (ha : a N = score n (q N)) : Seen a q (N + 1) (better n (BitVec.ofNat 32 (200 * N)) (q N) s) := by
  unfold better
  split_ifs with h
  · refine .inr ⟨N, N.lt_succ_self, by rw [ha], fun j hj => ?_⟩
    rcases Nat.lt_succ_iff_lt_or_eq.mp hj with hj | rfl
    · rcases hs with ⟨rfl, -⟩ | ⟨k, hk, rfl, hb⟩
      · omega
      · rw [← ha] at h
        have hlt : a j < a N := (hb j hj).1.trans_lt h
        exact ⟨hlt.le, fun e => absurd e hlt.ne⟩
    · exact ⟨le_refl _, fun _ => le_refl _⟩
  · rcases hs with ⟨rfl, hb⟩ | ⟨k, hk, rfl, hb⟩
    · exact absurd (hb ▸ score_pos n (q 0)) h
    · refine .inr ⟨k, hk.trans N.lt_succ_self, rfl, fun j hj => ?_⟩
      rcases Nat.lt_succ_iff_lt_or_eq.mp hj with hj | rfl
      · exact hb j hj
      · exact ⟨ha ▸ not_lt.mp h, fun _ => hk.le⟩

/-- A sweep over a block whose chunks are the ones from `B` on keeps that. -/
theorem sweep_seen (x : Vec Ideal S10000x128 .f32) (v12 : IVec S200x128 32) (v : BitVec 32) (i : S200x128.Idx) (a q : ℕ → EReal)
    (B : ℕ) (hw : ∀ k (h : k + 1 ≤ 50), x ((chunk k h).emb i) = q (B + k))
    (hc : ∀ k < 50, IntOp.addi v (BitVec.ofNat 32 (200 * k)) = BitVec.ofNat 32 (200 * (B + k)))
    (ha : ∀ k < 50, a (B + k) = score (IntOp.addi (v12 i) (IntOp.addi v (BitVec.ofNat 32 (200 * k)))) (q (B + k))) :
    ∀ (n k : ℕ) (h : n + k ≤ 50) (s : Best Ideal), Seen a q (B + k) (lane s i)
      → Seen a q (B + k + n) (lane (sweepVal x v12 v v n k h s) i)
  | 0, k, h, s, hs => by
    unfold sweepVal
    exact hs
  | n + 1, k, h, s, hs => by
    have hk : k < 50 := by omega
    have e := lane_keep v12 v v (BitVec.ofNat 32 (200 * k)) (fun j => x ((chunk k (one_le h)).emb j)) s i
    unfold sweepVal
    generalize keep v12 v v (BitVec.ofNat 32 (200 * k)) (fun j => x ((chunk k (one_le h)).emb j)) s = s' at e ⊢
    have hs' : Seen a q (B + (k + 1)) (lane s' i) := by
      rw [e, hw k (one_le h), hc k hk]
      refine hs.step _ ?_
      rw [ha k hk, hc k hk]
    have g := sweep_seen x v12 v i a q B hw hc ha n (k + 1) (shift_le h) s' hs'
    have en : B + (k + 1) + n = B + k + (n + 1) := by omega
    rw [en] at g
    exact g

variable (m : (ℓ : Loc nD τ sig) → Buf (Elt Ideal) ℓ)

/-- The weights of row `r` of the argument on device `c`. -/
def rowOfArg (c : Dev nD) (r : Fin 128) (k : Fin 100000) : EReal :=
  (m ((c : Thread nD τ).loc main_arg0) : Vec Ideal S128x100000 .f32) (ix2 (n0 := 128) (n1 := 100000) r k)

/-- A place of the table is a place of the argument. -/
theorem table_apply (c : Dev nD) (k : Fin 100000) (r : Fin 128) :
    table m c (ix2 (n0 := 100000) (n1 := 128) k r) = rowOfArg m c r k :=
  transpose_ix2_apply _ _ _ _

/-- A row's values at every number, zero past its end. -/
def past (p : Fin 100000 → EReal) (n : ℕ) : EReal := if h : n < 100000 then p ⟨n, h⟩ else 0

/-- The weights of slot `j` of lane `r`, chunk by chunk. -/
def slotWeight (c : Dev nD) (r : Fin 128) (j : ℕ) (n : ℕ) : EReal := past (rowOfArg m c r) (200 * n + j)

/-- The scores of slot `j` of lane `r`, chunk by chunk. -/
def slotScore (c : Dev nD) (r : Fin 128) (j : ℕ) (n : ℕ) : EReal :=
  score (IntOp.addi (BitVec.ofNat 32 (100000 * r.val + (200 * n + j))) 42#32) (slotWeight m c r j n)

/-- After `n` blocks of the first phase, a lane carries the first of the best of their chunks. -/
theorem best_seen (c : Dev nD) (j : Fin 200) (r : Fin 128) : ∀ n ≤ 10,
    Seen (slotScore m c r j.val) (slotWeight m c r j.val) (50 * n) (lane (bestAt m c n) (ix2 (n0 := 200) (n1 := 128) j r))
  | 0, _ => .inl ⟨rfl, ofBits_bot⟩
  | n + 1, hn => by
    have hN : n < cfg0.N := by have : cfg0.N = 20 := N_0; omega
    have ht : n % 10 = n := Nat.mod_eq_of_lt (by omega)
    have hj := j.isLt
    have hr := r.isLt
    have hb : base (grid0.coords ⟨n, hN⟩) = BitVec.ofNat 32 (10000 * n) := by
      unfold base
      rw [coord1]
      show BitVec.ofNat 32 (n % 10) * 10000#32 = _
      rw [ht]
      apply BitVec.eq_of_toNat_eq
      simp only [BitVec.toNat_mul, BitVec.toNat_ofNat]
      omega
    have hc : ∀ k < 50, IntOp.addi (base (grid0.coords ⟨n, hN⟩)) (BitVec.ofNat 32 (200 * k)) = BitVec.ofNat 32 (200 * (50 * n + k)) := by
      intro k hk
      rw [hb]
      show BitVec.ofNat 32 (10000 * n) + BitVec.ofNat 32 (200 * k) = _
      rw [← BitVec.ofNat_add]
      congr 1
      omega
    have g := sweep_seen (weights m c ⟨n, hN⟩) counter (base (grid0.coords ⟨n, hN⟩)) (ix2 (n0 := 200) (n1 := 128) j r)
      (slotScore m c r j.val) (slotWeight m c r j.val) (50 * n) (fun k h => by
        rw [weights_apply]
        have e1 : ((chunk k h).emb (ix2 (n0 := 200) (n1 := 128) j r)) 1 = r := Fin.ext (by
          show 0 + 1 * r.val = r.val
          omega)
        have e0 : rowOf ⟨n, hN⟩ (((chunk k h).emb (ix2 (n0 := 200) (n1 := 128) j r)) 0).val
            (((chunk k h).emb (ix2 (n0 := 200) (n1 := 128) j r)) 0).isLt
              = ⟨200 * (50 * n + k) + j.val, by omega⟩ := Fin.ext (by
          show 10000 * (n % 10) + (200 * k + 1 * j.val) = 200 * (50 * n + k) + j.val
          omega)
        rw [e0]
        refine (congrArg (fun l => table m c (ix2 (n0 := 100000) (n1 := 128) ⟨200 * (50 * n + k) + j.val, by omega⟩ l)) e1).trans ?_
        refine (table_apply m c _ r).trans ?_
        unfold slotWeight past
        rw [dif_pos (by omega)]) hc (fun k hk => by
        rw [hc k hk]
        unfold slotScore
        congr 1
        show _ = IntOp.addi (counter (ix2 (n0 := 200) (n1 := 128) j r)) _
        have e : counter (ix2 (n0 := 200) (n1 := 128) j r) = BitVec.ofNat 32 r.val * 100000#32 + (BitVec.ofNat 32 j.val + 42#32) := by
          show iota .tc S200x128 32 [1] _ (ix2 (n0 := 200) (n1 := 128) j r) * 100000#32
            + (iota .tc S200x128 32 [0] _ (ix2 (n0 := 200) (n1 := 128) j r) + 42#32) = _
          rw [iota_single_apply, iota_single_apply]
        rw [e]
        show BitVec.ofNat 32 _ + 42#32 = _ + BitVec.ofNat 32 _
        apply BitVec.eq_of_toNat_eq
        simp only [BitVec.toNat_mul, BitVec.toNat_add, BitVec.toNat_ofNat]
        omega) 50 0 (Nat.le_refl 50) (bestAt m c n) (best_seen c j r n (by omega))
    unfold bestAt
    rw [dif_pos hN]
    have e : 50 * n + 0 + 50 = 50 * (n + 1) := by omega
    rw [e] at g
    exact g

/-- After the first phase slot `j` of lane `r` carries a place of its own: its score, its chunk, its weight; no place of the slot
    scores more, and none before it as much. -/
theorem final_slot (c : Dev nD) (j : Fin 200) (r : Fin 128) : ∃ k < 500,
    lane (final m c) (ix2 (n0 := 200) (n1 := 128) j r) = (slotScore m c r j.val k, BitVec.ofNat 32 (200 * k), slotWeight m c r j.val k)
      ∧ ∀ n < 500, slotScore m c r j.val n ≤ slotScore m c r j.val k ∧ (slotScore m c r j.val n = slotScore m c r j.val k → k ≤ n) := by
  rcases best_seen m c j r 10 le_rfl with ⟨h, -⟩ | h
  · omega
  · exact h

/-- A slot's weight is a weight of the row. -/
theorem slotWeight_eq (c : Dev nD) (r : Fin 128) (j n : ℕ) (h : 200 * n + j < 100000) :
    slotWeight m c r j n = rowOfArg m c r ⟨200 * n + j, h⟩ := by
  unfold slotWeight past
  rw [dif_pos h]

/-- A slot's score is a score of the row. -/
theorem slotScore_eq (c : Dev nD) (r : Fin 128) (j n : ℕ) (h : 200 * n + j < 100000) :
    slotScore m c r j n = rowScore (rowOfArg m c r) r.val ⟨200 * n + j, h⟩ := by
  unfold slotScore rowScore
  rw [slotWeight_eq m c r j n h]

end Cert.KernelIdeal.Hand
-- ==== Proof.Column.lean ====
/- Reductions down a column: a fold that meets its best value ends at it. -/
module

public import proofs.«01_k».proof.Proof.Passes
public import proofs.«01_k».proof.Proof.Draw
public import Idealize.ShloMosaic.Lib.ValueLayout

@[expose] public section

set_option maxRecDepth 16384

noncomputable section

namespace Cert.KernelIdeal.Hand

open Idealize.ShloMosaic Idealize.ShloMosaic.ValueIdx Cert.KernelIdeal.Gen Cert.Draw

/-- A fold whose operation gives way to `M` among the values `P` ends at `M`, when all are among `P` and one is `M`. -/
theorem fold_absorbs {α ι : Type} (op : α → α → α) (M : α) (P : α → Prop) (hc : ∀ a b, P a → P b → P (op a b))
    (hl : ∀ a, P a → op M a = M) (hr : ∀ a, P a → op a M = M) (f : ι → α) (hf : ∀ r, P (f r)) :
    ∀ (l : List ι) (e : α), P e → (e = M ∨ ∃ r ∈ l, f r = M) → l.foldl (fun acc r => op acc (f r)) e = M
  | [], e, _, h => by
    rcases h with h | ⟨r, hr, -⟩
    · exact h
    · simp at hr
  | r :: l, e, he, h => by
    rw [List.foldl_cons]
    refine fold_absorbs op M P hc hl hr f hf l (op e (f r)) (hc e (f r) he (hf r)) ?_
    rcases h with rfl | ⟨r', hr', e'⟩
    · exact .inl (hl _ (hf r))
    · rcases List.mem_cons.mp hr' with rfl | hr'
      · exact .inl (by rw [e', hr e he])
      · exact .inr ⟨r', hr', e'⟩

/-- A reduction down the slots is, in a lane, the fold over the lane's slots. -/
theorem column_fold {α : Type} (op : α → α → α) (init : α) (x : S200x128.Idx → α) (l : Fin 128) :
    reduceFold reduces_S200x128_S128 op init x (ix1 l)
      = (List.finRange 200).foldl (fun acc r => op acc (x (ix2 (n0 := 200) (n1 := 128) r l))) init := by
  refine (reduceFold_rows reduces_S200x128_S128 op init x (ix1 l)).trans ?_
  have e : ∀ r : Fin 200, Shape.pair r (Shape.Reduces.col reduces_S200x128_S128 (ix1 l)) = ix2 (n0 := 200) (n1 := 128) r l := by
    intro r
    funext a
    match a with
    | ⟨0, _⟩ => rfl
    | ⟨1, _⟩ => rfl
  exact congrArg (fun g : Fin 200 → S200x128.Idx => (List.finRange 200).foldl (fun acc r => op acc (x (g r))) init) (funext e)

/-- The largest value of a lane's slots, read from a reduction by maximum. -/
theorem column_max (x : FVec Ideal S200x128 .f32) (l : Fin 128) (M : EReal)
    (hle : ∀ j, (x (ix2 (n0 := 200) (n1 := 128) j l) : EReal) ≤ M) (hex : ∃ j, (x (ix2 (n0 := 200) (n1 := 128) j l) : EReal) = M) :
    shapeCast S1x128 (multiReduction .maximumf [0] S128 x 0xFF800000#32 reduces_S200x128_S128 (.inl rfl) rfl) shapeCasts_S128_S1x128
      (ix2 (n0 := 1) (n1 := 128) 0 l) = M := by
  refine (shapeCast_a_1a_apply _ _ _ _).trans ?_
  refine (column_fold (fun a b : EReal => max a b) (Ideal.ofBits .f32 0xFF800000#32) x l).trans ?_
  obtain ⟨j, hj⟩ := hex
  exact fold_absorbs (fun a b : EReal => max a b) M (fun a => a ≤ M) (fun _ _ => max_le) (fun _ => max_eq_left) (fun _ => max_eq_right)
    (fun j => (x (ix2 (n0 := 200) (n1 := 128) j l) : EReal)) hle (List.finRange 200) _ ((ofBits_bot).trans_le bot_le)
    (.inr ⟨j, List.mem_finRange j, hj⟩)

/-- The least signed word of a lane's slots, read from a reduction by minimum. -/
theorem column_min (x : IVec S200x128 32) (l : Fin 128) (M : BitVec 32)
    (hle : ∀ j, M.toInt ≤ (x (ix2 (n0 := 200) (n1 := 128) j l)).toInt) (hex : ∃ j, x (ix2 (n0 := 200) (n1 := 128) j l) = M) :
    shapeCast S1x128 (multiReductionI .minsi [0] S128 x 2147483647#32 reduces_S200x128_S128 rfl) shapeCasts_S128_S1x128
      (ix2 (n0 := 1) (n1 := 128) 0 l) = M := by
  refine (shapeCast_a_1a_apply _ _ _ _).trans ?_
  refine (congrFun (multiReductionI_eq_reduceFold .minsi x 2147483647#32 reduces_S200x128_S128 rfl) (ix1 l)).trans ?_
  refine (column_fold (fun a b : BitVec 32 => IntOp.minsi a b) 2147483647#32 x l).trans ?_
  obtain ⟨j, hj⟩ := hex
  refine fold_absorbs (fun a b : BitVec 32 => IntOp.minsi a b) M (fun a => M.toInt ≤ a.toInt) (fun a b ha hb => ?_) (fun a ha => ?_)
    (fun a ha => ?_) (fun j => x (ix2 (n0 := 200) (n1 := 128) j l)) hle (List.finRange 200) _ ?_ (.inr ⟨j, List.mem_finRange j, hj⟩)
  · show M.toInt ≤ (if a.slt b then a else b).toInt
    split_ifs
    · exact ha
    · exact hb
  · show (if M.slt a then M else a) = M
    split_ifs with h
    · rfl
    · rw [BitVec.slt_iff_toInt_lt, not_lt] at h
      exact BitVec.eq_of_toInt_eq (le_antisymm h ha)
  · show (if a.slt M then a else M) = M
    split_ifs with h
    · rw [BitVec.slt_iff_toInt_lt] at h
      omega
    · rfl
  · have h := BitVec.toInt_lt (x := M)
    have e : (2147483647#32).toInt = 2147483647 := by decide
    show M.toInt ≤ (2147483647#32).toInt
    rw [e]
    norm_num at h
    omega

end Cert.KernelIdeal.Hand
-- ==== Proof.Pick.lean ====
/- The kernel's two results, row by row, over the extended reals. -/
module

public import proofs.«01_k».proof.Proof.Sweep
public import proofs.«01_k».proof.Proof.Column

@[expose] public section

set_option maxRecDepth 16384

noncomputable section

namespace Cert.KernelIdeal.Hand

open Idealize.ShloMosaic Idealize.ShloMosaic.TcCoe Idealize.SL.Sem Idealize.ShloMosaic.ValueIdx Cert.KernelIdeal.Gen Cert.Draw

/-- The slots of lane `r` carry the places `pl` of a row of scores `f` and weights `p`. -/
def Carries (s : Best Ideal) (r : Fin 128) (f p : Fin 100000 → EReal) (pl : Fin 200 → Fin 100000) : Prop :=
  ∀ j : Fin 200, (s.1 (ix2 (n0 := 200) (n1 := 128) j r) : EReal) = f (pl j)
    ∧ addi s.2.1 rowNo (ix2 (n0 := 200) (n1 := 128) j r) = BitVec.ofNat 32 (pl j).val
    ∧ (s.2.2 (ix2 (n0 := 200) (n1 := 128) j r) : EReal) = p (pl j)

/-- A place as a signed word. -/
theorem place_toInt (k : Fin 100000) : (BitVec.ofNat 32 k.val).toInt = k.val := by
  have hk := k.isLt
  rw [BitVec.toInt_eq_toNat_of_lt (by simp; omega)]
  simp; omega

/-- Two places are one when their words are. -/
theorem place_inj {k l : Fin 100000} (h : BitVec.ofNat 32 k.val = BitVec.ofNat 32 l.val) : k = l := by
  have e := congrArg BitVec.toInt h
  rw [place_toInt, place_toInt] at e
  exact Fin.ext (by exact_mod_cast e)

/-- The slots with the largest score are the ones whose place scores as the first best. -/
theorem topMask_apply {s : Best Ideal} {r : Fin 128} {f p : Fin 100000 → EReal} {pl : Fin 200 → Fin 100000} (h : Carries s r f p pl)
    {K : Fin 100000} (hK : FirstBest f K) (hj : ∃ j, pl j = K) (j : Fin 200) :
    topMask s (ix2 (n0 := 200) (n1 := 128) j r) = BitVec.ofBool (decide (f (pl j) = f K)) := by
  obtain ⟨j0, h0⟩ := hj
  have e := column_max s.1 r (f K) (fun j => by rw [(h j).1]; exact (hK _).1) ⟨j0, by rw [(h j0).1, h0]⟩
  have e' := (broadcastTo_1b_ab_apply (shapeCast S1x128 (multiReduction .maximumf [0] S128 s.1 0xFF800000#32 reduces_S200x128_S128
    (.inl rfl) rfl) shapeCasts_S128_S1x128) broadcasts_S1x128_S200x128 j r).trans e
  have g : topMask s (ix2 (n0 := 200) (n1 := 128) j r) = BitVec.ofBool (decide ((s.1 (ix2 (n0 := 200) (n1 := 128) j r) : EReal)
    = broadcastTo S200x128 (shapeCast S1x128 (multiReduction .maximumf [0] S128 s.1 0xFF800000#32 reduces_S200x128_S128
    (.inl rfl) rfl) shapeCasts_S128_S1x128) broadcasts_S1x128_S200x128 (ix2 (n0 := 200) (n1 := 128) j r))) := rfl
  refine g.trans ?_
  have e1 := (h j).1
  exact congrArg BitVec.ofBool (decide_eq_decide.mpr (by rw [e1]; exact ⟨fun w => w.trans e', fun w => w.trans e'.symm⟩))

/-- The chosen row is the first best place. -/
theorem chosenRow_apply {s : Best Ideal} {r : Fin 128} {f p : Fin 100000 → EReal} {pl : Fin 200 → Fin 100000} (h : Carries s r f p pl)
    {K : Fin 100000} (hK : FirstBest f K) (hj : ∃ j, pl j = K) :
    chosenRow s (ix2 (n0 := 1) (n1 := 128) 0 r) = BitVec.ofNat 32 K.val := by
  have hx : ∀ j : Fin 200, select (topMask s) (addi s.2.1 rowNo) (broadcast S200x128 2147483647#32) (ix2 (n0 := 200) (n1 := 128) j r)
      = if f (pl j) = f K then BitVec.ofNat 32 (pl j).val else 2147483647#32 := by
    intro j
    show Scalar.select (topMask s (ix2 (n0 := 200) (n1 := 128) j r)) (addi s.2.1 rowNo (ix2 (n0 := 200) (n1 := 128) j r)) 2147483647#32 = _
    rw [topMask_apply h hK hj j, (h j).2.1]
    by_cases e : f (pl j) = f K
    · rw [if_pos e, decide_eq_true e]; rfl
    · rw [if_neg e, decide_eq_false e]; rfl
  refine column_min _ r _ (fun j => ?_) ?_
  · rw [hx j, place_toInt]
    split_ifs with e
    · rw [place_toInt]
      exact_mod_cast Fin.le_def.mp ((hK (pl j)).2 e)
    · have hk := K.isLt
      have e : (2147483647#32).toInt = 2147483647 := by decide
      rw [e]; omega
  · obtain ⟨j, e⟩ := hj
    exact ⟨j, by rw [hx j, e, if_pos rfl]⟩

/-- The chosen weight is the weight of the first best place, when that is at least minus one. -/
theorem chosenWeight_apply {s : Best Ideal} {r : Fin 128} {f p : Fin 100000 → EReal} {pl : Fin 200 → Fin 100000} (h : Carries s r f p pl)
    {K : Fin 100000} (hK : FirstBest f K) (hj : ∃ j, pl j = K) (hp : -1 ≤ p K) :
    (chosenWeight s (ix2 (n0 := 1) (n1 := 128) 0 r) : EReal) = p K := by
  have hb : ∀ j : Fin 200, broadcastTo S200x128 (chosenRow s) broadcasts_S1x128_S200x128 (ix2 (n0 := 200) (n1 := 128) j r)
      = BitVec.ofNat 32 K.val := fun j => (broadcastTo_1b_ab_apply _ _ j r).trans (chosenRow_apply h hK hj)
  have hx : ∀ j : Fin 200, (select (andi (topMask s) (cmpi .eq (addi s.2.1 rowNo) (broadcastTo S200x128 (chosenRow s) broadcasts_S1x128_S200x128)))
      s.2.2 (broadcast S200x128 (Scalar.ofBits (F := Ideal) .f32 0xBF800000#32)) (ix2 (n0 := 200) (n1 := 128) j r) : EReal)
        = if pl j = K then p K else -1 := by
    intro j
    show (Scalar.select (IntOp.andi (topMask s (ix2 (n0 := 200) (n1 := 128) j r))
      (BitVec.ofBool (addi s.2.1 rowNo (ix2 (n0 := 200) (n1 := 128) j r)
        == broadcastTo S200x128 (chosenRow s) broadcasts_S1x128_S200x128 (ix2 (n0 := 200) (n1 := 128) j r))))
      (s.2.2 (ix2 (n0 := 200) (n1 := 128) j r)) (Ideal.ofBits .f32 0xBF800000#32) : EReal) = _
    rw [topMask_apply h hK hj j, (h j).2.1, hb j, ofBits_neg_one]
    by_cases e : pl j = K
    · rw [if_pos e, e, decide_eq_true rfl, beq_self_eq_true]
      exact (h j).2.2.trans (congrArg p e)
    · rw [if_neg e, beq_eq_false_iff_ne.mpr fun g => e (place_inj g)]
      cases decide (f (pl j) = f K) <;> rfl
  refine column_max _ r _ (fun j => ?_) ?_
  · refine (hx j).trans_le ?_
    split_ifs
    · exact le_refl _
    · exact hp
  · obtain ⟨j, e⟩ := hj
    exact ⟨j, (hx j).trans (if_pos e)⟩

/-- The chosen value is the odds at the first best place. -/
theorem chosenValue_apply {s : Best Ideal} {r : Fin 128} {f p : Fin 100000 → EReal} {pl : Fin 200 → Fin 100000} (h : Carries s r f p pl)
    {K : Fin 100000} (hK : FirstBest f K) (hj : ∃ j, pl j = K) (hp : -1 ≤ p K) :
    (chosenValue s (ix2 (n0 := 1) (n1 := 128) 0 r) : EReal) = Ideal.div (1 - p K) (max (p K) (Ideal.ofBits .f32 0x2EDBE6FF#32)) := by
  have e := chosenWeight_apply h hK hj hp
  unfold chosenValue
  generalize chosenWeight s = w at e ⊢
  show Ideal.div (Ideal.ofBits .f32 0x3F800000#32 - (w (ix2 (n0 := 1) (n1 := 128) 0 r) : EReal))
    (max (w (ix2 (n0 := 1) (n1 := 128) 0 r) : EReal) (Ideal.ofBits .f32 0x2EDBE6FF#32)) = _
  rw [e, ofBits_one]

variable (m : (ℓ : Loc nD τ sig) → Buf (Elt Ideal) ℓ)

/-- After the first phase the slots of lane `r` carry places of row `r`, the first best among them. -/
theorem final_carries (c : Dev nD) (r : Fin 128) {K : Fin 100000} (hK : FirstBest (rowScore (rowOfArg m c r) r.val) K) :
    ∃ pl, Carries (final m c) r (rowScore (rowOfArg m c r) r.val) (rowOfArg m c r) pl ∧ ∃ j, pl j = K := by
  have hs := fun j => final_slot m c j r
  choose k hk hl hb using hs
  have hlt : ∀ j : Fin 200, 200 * k j + j.val < 100000 := fun j => by have := hk j; have := j.isLt; omega
  refine ⟨fun j => ⟨200 * k j + j.val, hlt j⟩, fun j => ?_, ⟨K.val % 200, Nat.mod_lt _ (by decide)⟩, ?_⟩
  · have e1 := congrArg Prod.fst (hl j)
    have e2 := congrArg (fun t => t.2.1) (hl j)
    have e3 := congrArg (fun t => t.2.2) (hl j)
    refine ⟨e1.trans (slotScore_eq m c r j.val (k j) (hlt j)), ?_, e3.trans (slotWeight_eq m c r j.val (k j) (hlt j))⟩
    have e2' : (final m c).2.1 (ix2 (n0 := 200) (n1 := 128) j r) = BitVec.ofNat 32 (200 * k j) := e2
    have er : rowNo (ix2 (n0 := 200) (n1 := 128) j r) = BitVec.ofNat 32 j.val := by
      unfold rowNo
      exact iota_single_apply _ _ _ _ _ _
    show (final m c).2.1 (ix2 (n0 := 200) (n1 := 128) j r) + rowNo (ix2 (n0 := 200) (n1 := 128) j r) = _
    rw [e2', er, ← BitVec.ofNat_add]
  · apply Fin.ext
    generalize hj : (⟨K.val % 200, Nat.mod_lt _ (by decide)⟩ : Fin 200) = j
    have hj' : j.val = K.val % 200 := by rw [← hj]
    have hKlt := K.isLt
    have hn : K.val / 200 < 500 := by omega
    have hp : 200 * (K.val / 200) + j.val < 100000 := by omega
    have eK : (⟨200 * (K.val / 200) + j.val, hp⟩ : Fin 100000) = K := Fin.ext (by
      show 200 * (K.val / 200) + j.val = K.val
      omega)
    obtain ⟨h1, h2⟩ := hb j (K.val / 200) hn
    rw [slotScore_eq m c r j.val _ hp, slotScore_eq m c r j.val _ (hlt j), eK] at h1 h2
    obtain ⟨g1, g2⟩ := hK ⟨200 * k j + j.val, hlt j⟩
    have e := le_antisymm h1 g1
    have a1 := h2 e
    have a2 : K.val ≤ 200 * k j + j.val := g2 e.symm
    show 200 * k j + j.val = K.val
    omega

/-- The first result of a row is its first best place. -/
theorem out0_apply (c : Dev nD) (r : Fin 128) {K : Fin 100000} (hK : FirstBest (rowScore (rowOfArg m c r) r.val) K) :
    out0 m c (ix2 (n0 := 128) (n1 := 1) r 0) = BitVec.ofNat 32 K.val := by
  obtain ⟨pl, h, hj⟩ := final_carries m c r hK
  refine (transpose_ix2_apply _ _ _ _).trans ?_
  exact chosenRow_apply h hK hj

/-- The second pass's test picks out the first best place. -/
theorem paint_test (k K : Fin 100000) :
    IntOp.cmpi .eq (BitVec.ofNat 32 (k.val % 10000 % 200))
      (IntOp.subi (BitVec.ofNat 32 K.val) (Scalar.addi (BitVec.ofNat 32 (10000 * (k.val / 10000))) (BitVec.ofNat 32 (200 * (k.val % 10000 / 200)))))
      = BitVec.ofBool (decide (k = K)) := by
  have hk := k.isLt
  have hK := K.isLt
  show BitVec.ofBool (BitVec.ofNat 32 (k.val % 10000 % 200)
    == BitVec.ofNat 32 K.val - (BitVec.ofNat 32 (10000 * (k.val / 10000)) + BitVec.ofNat 32 (200 * (k.val % 10000 / 200)))) = _
  congr 1
  rw [← BitVec.ofNat_add, Bool.eq_iff_iff, beq_iff_eq, decide_eq_true_iff]
  constructor
  · intro h
    have e := congrArg BitVec.toNat h
    rw [BitVec.toNat_sub] at e
    simp only [BitVec.toNat_ofNat] at e
    exact Fin.ext (by omega)
  · rintro rfl
    apply BitVec.eq_of_toNat_eq
    rw [BitVec.toNat_sub]
    simp only [BitVec.toNat_ofNat]
    omega

/-- A cell of the second pass. -/
theorem painted_apply (x : FVec Ideal S10000x128 .f32) (idx : IVec S1x128 32) (vc : FVec Ideal S1x128 .f32) (k K : Fin 100000) (r : Fin 128)
    (h : idx (ix2 (n0 := 1) (n1 := 128) 0 r) = BitVec.ofNat 32 K.val) :
    (painted (F := Ideal) x (BitVec.ofNat 32 (10000 * (k.val / 10000))) idx vc (ix2 (n0 := 10000) (n1 := 128) ⟨k.val % 10000, Nat.mod_lt _ (by decide)⟩ r) : EReal)
      = if k = K then (vc (ix2 (n0 := 1) (n1 := 128) 0 r) : EReal)
        else Ideal.div (x (ix2 (n0 := 10000) (n1 := 128) ⟨k.val % 10000, Nat.mod_lt _ (by decide)⟩ r) : EReal)
          (max (1 - (x (ix2 (n0 := 10000) (n1 := 128) ⟨k.val % 10000, Nat.mod_lt _ (by decide)⟩ r) : EReal)) (Ideal.ofBits .f32 0x2EDBE6FF#32)) := by
  show (Scalar.select (IntOp.cmpi .eq (BitVec.ofNat 32 (k.val % 10000 % 200))
      (IntOp.subi (idx (ix2 (n0 := 1) (n1 := 128) 0 r))
        (Scalar.addi (BitVec.ofNat 32 (10000 * (k.val / 10000))) (BitVec.ofNat 32 (200 * (k.val % 10000 / 200))))))
    (vc (ix2 (n0 := 1) (n1 := 128) 0 r) : EReal)
    (Ideal.div (x (ix2 (n0 := 10000) (n1 := 128) ⟨k.val % 10000, Nat.mod_lt _ (by decide)⟩ r) : EReal)
      (max (Ideal.ofBits .f32 0x3F800000#32
        - (x (ix2 (n0 := 10000) (n1 := 128) ⟨k.val % 10000, Nat.mod_lt _ (by decide)⟩ r) : EReal))
        (Ideal.ofBits .f32 0x2EDBE6FF#32))) : EReal) = _
  rw [h, paint_test, ofBits_one]
  by_cases e : k = K
  · rw [if_pos e, decide_eq_true e]; rfl
  · rw [if_neg e, decide_eq_false e]; rfl

/-- The second result of a row is its odds when the first best place is drawn. -/
theorem out1_apply (c : Dev nD) (r : Fin 128) {K : Fin 100000} (hK : FirstBest (rowScore (rowOfArg m c r) r.val) K)
    (hp : -1 ≤ rowOfArg m c r K) (k : Fin 100000) :
    (out1 m c (ix2 (n0 := 128) (n1 := 100000) r k) : EReal) = rowOdds (rowOfArg m c r) K k := by
  obtain ⟨pl, h, hj⟩ := final_carries m c r hK
  have hk := k.isLt
  refine (transpose_ix2_apply _ _ _ _).trans ?_
  have ew : (weights m c (pointOf k) (ix2 (n0 := 10000) (n1 := 128) ⟨k.val % 10000, Nat.mod_lt _ (by decide)⟩ r) : EReal) = rowOfArg m c r k := by
    rw [weights_apply]
    have e0 : rowOf (pointOf k) (k.val % 10000) (Nat.mod_lt _ (by decide)) = k := Fin.ext (by
      show 10000 * ((10 + k.val / 10000) % 10) + k.val % 10000 = k.val
      omega)
    exact (congrArg (fun l => table m c (ix2 (n0 := 100000) (n1 := 128) l r)) e0).trans (table_apply m c k r)
  have eb : base (grid0.coords (pointOf k)) = BitVec.ofNat 32 (10000 * (k.val / 10000)) := by
    unfold base
    rw [coord1]
    have e0 : (pointOf k).val % 10 = k.val / 10000 := by
      show (10 + k.val / 10000) % 10 = _
      omega
    rw [e0]
    show BitVec.ofNat 32 (k.val / 10000) * BitVec.ofNat 32 10000 = _
    rw [← BitVec.ofNat_mul, Nat.mul_comm]
  have ev := chosenValue_apply h hK hj hp
  have er := chosenRow_apply h hK hj
  have g : (bigOut m c (ix2 (n0 := 100000) (n1 := 128) k r) : EReal) = painted (weights m c (pointOf k)) (base (grid0.coords (pointOf k)))
      (chosenRow (final m c)) (chosenValue (final m c)) (ix2 (n0 := 10000) (n1 := 128) ⟨k.val % 10000, Nat.mod_lt _ (by decide)⟩ r) := rfl
  refine g.trans ?_
  rw [eb]
  refine (painted_apply _ _ _ _ _ _ er).trans ?_
  rw [ew, ev]
  unfold rowOdds
  by_cases e : k = K
  · rw [if_pos e, if_pos e, e]
  · rw [if_neg e, if_neg e]

end Cert.KernelIdeal.Hand
-- ==== Proof.lean ====
/- The claims about the kernel, its ideal form and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Arrays
public import proofs.«01_k».proof.Proof.Same
public import proofs.«01_k».proof.Proof.RefRun
public import proofs.«01_k».proof.Proof.RefBest
public import proofs.«01_k».proof.Proof.Pick
public import Idealize.ShloMosaic.Adequacy
public import Idealize.ShloMosaic.Init

@[expose] public section

set_option maxRecDepth 16384

noncomputable section

namespace Cert.Proof

open Idealize.ShloMosaic Idealize.SL.Sem Idealize.ShloMosaic.ValueIdx Cert.Draw

/-- The side conditions of the precondition. -/
theorem weights_facts : Cert.Pre_weights_above.Facts where
  bcast_S_S128x100000 := by decide
  reducesTo_S128x100000_S_d0_1 := by decide
  h_S_ := by decide

/-- A fold of bits by "and" from one is one only when every bit is. -/
theorem fold_ands {ι : Type} (x : ι → BitVec 1) (l : List ι) (v : BitVec 1) (h : l.foldl (fun r i => IntOp.andi r (x i)) v = 1#1) :
    v = 1#1 ∧ ∀ i ∈ l, x i = 1#1 := by
  induction l generalizing v with
  | nil => exact ⟨h, fun _ hi => absurd hi (List.not_mem_nil)⟩
  | cons a l ih =>
    obtain ⟨h1, h2⟩ := ih _ h
    have h3 : ∀ u w : BitVec 1, IntOp.andi u w = 1#1 → u = 1#1 ∧ w = 1#1 := by decide
    obtain ⟨h4, h5⟩ := h3 _ _ h1
    exact ⟨h4, fun i hi => (List.mem_cons.mp hi).elim (fun e => e ▸ h5) (h2 i)⟩

/-- A reduction of bits by "and" is one only when every bit that it reads is. -/
theorem reduce_ands {s t u : Shape} {axes : List (Fin s.rank)} (x : s.Idx → BitVec 1) (v : u.Idx → BitVec 1) (h : s.ReducesTo axes t) (hu : 0 < u.numel)
    (j : t.Idx) (e : Host.reduce IntOp.andi x v h hu j = 1#1) (i : s.Idx) (hi : h.drop i = j) : x i = 1#1 := by
  rw [Host.reduce_eq_foldl] at e
  exact (fold_ands _ _ _ e).2 i (List.mem_filter.mpr ⟨List.mem_map.mpr
    ⟨s.rowMajor i, List.mem_finRange _, Equiv.symm_apply_apply _ _⟩, decide_eq_true hi⟩)

/-- Under the precondition every weight is at least minus one. -/
theorem weights_ge [hF : Cert.Pre_weights_above.Facts] (x : FVec Ideal Cert.Pre_weights_above.S128x100000 .f32)
    (a b : FVec Ideal Cert.Pre_weights_above.S_ .f32) (h : Cert.Pre_weights_above.fn (F := Ideal) x a b = fun _ => 1#1)
    (i : Cert.Pre_weights_above.S128x100000.Idx) : (-1 : EReal) ≤ x i := by
  have e := congrFun h (Shape.Idx.first hF.h_S_)
  unfold Cert.Pre_weights_above.fn at e
  dsimp only at e
  have g := reduce_ands _ _ _ _ _ e i (funext fun d => d.elim0)
  have g' : BitVec.ofBool (decide ((Ideal.ofBits .f32 0xBF800000#32 : EReal) ≤ x i)) = 1#1 := g
  rw [ofBits_neg_one] at g'
  by_contra hc
  rw [decide_eq_false hc] at g'
  exact absurd g' (by decide)

/-- From equal arguments the reference's two results are the kernel's, when every weight is at least minus one. -/
theorem results_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (ha : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (hp : ∀ r k, -1 ≤ Cert.KernelIdeal.Hand.rowOfArg m c r k) :
    Cert.ReferenceIdeal.Hand.finish m' c (Proc.devRef .tc Cert.ReferenceIdeal.main_v46) = Cert.KernelIdeal.Hand.out0 m c
      ∧ Cert.ReferenceIdeal.Hand.finish m' c (Proc.devRef .tc Cert.ReferenceIdeal.main_v67) = Cert.KernelIdeal.Hand.out1 m c := by
  have hR := Cert.ReferenceIdeal.Hand.finish_holds m' c
  have h0 := (Cert.ReferenceIdeal.Hand.finish_low m' c Cert.ReferenceIdeal.main_arg0 (by decide)).trans ha
  generalize Cert.ReferenceIdeal.Hand.finish m' c = R at hR h0 ⊢
  have hrow : ∀ r : Fin 128, (fun k : Fin 100000 => (Cert.ReferenceIdeal.Hand.val R (.of Cert.ReferenceIdeal.main_arg0 : Cert.ReferenceIdeal.Hand.X)
      (ix2 (n0 := 128) (n1 := 100000) r k) : EReal)) = Cert.KernelIdeal.Hand.rowOfArg m c r := fun r =>
    funext fun k => congrFun h0 (ix2 (n0 := 128) (n1 := 100000) r k)
  have hall := fun r => Cert.ReferenceIdeal.Hand.row_results hR r
  simp only [hrow] at hall
  constructor
  · refine funext fun (i : Cert.KernelIdeal.S128x1.Idx) => ?_
    obtain ⟨r, z, rfl⟩ : ∃ r z, i = ix2 (n0 := 128) (n1 := 1) r z := ⟨_, _, eq_ix2 i⟩
    obtain rfl : z = 0 := Subsingleton.elim _ _
    obtain ⟨K, hK, e, _⟩ := hall r
    exact e.trans (Cert.KernelIdeal.Hand.out0_apply m c r hK).symm
  · refine funext fun (i : Cert.KernelIdeal.S128x100000.Idx) => ?_
    obtain ⟨r, k, rfl⟩ : ∃ r k, i = ix2 (n0 := 128) (n1 := 100000) r k := ⟨_, _, eq_ix2 i⟩
    obtain ⟨K, hK, _, e⟩ := hall r
    exact (e k).trans (Cert.KernelIdeal.Hand.out1_apply m c r hK (hp r K) k).symm

/-- The ideal kernel and the reference end with the same results. -/
theorem same : Cert.algebraic_KernelIdeal_ReferenceIdeal_pre_weights_above (hPre_weights_above := weights_facts) :=
  fun m g m' g' hpre hargs => ⟨Cert.KernelIdeal.Hand.out0 m, Cert.KernelIdeal.Hand.out1 m,
    (θ_run _ _ _).mono (fun _ h c => ⟨(h.1 c).1, (h.1 c).2, (h.2.1 c).1, (h.2.1 c).2.1, (h.2.1 c).2.2⟩)
      (θ_run_and (Cert.KernelIdeal.Hand.run_values m g) (Cert.KernelIdeal.Hand.run_quiet m g)),
    (θ_run _ _ _).mono (fun _ h c =>
      have e := results_same m m' c (hargs c).1 fun r k =>
        weights_ge (hF := weights_facts) _ _ _ (hpre c) (ix2 (n0 := 128) (n1 := 100000) r k)
      ⟨(h.1 c _).trans e.1, (h.1 c _).trans e.2, (h.2.1 c).1, (h.2.1 c).2.1, (h.2.1 c).2.2⟩)
      (θ_run_and (Cert.ReferenceIdeal.Hand.run_finish m' g') (Cert.ReferenceIdeal.Hand.run_quiet m' g'))⟩

/-- The claims hold. -/
theorem claim : Cert.Claim := ⟨Cert.Kernel.Gen.facts, Cert.KernelIdeal.Gen.facts, Cert.ReferenceIdeal.Gen.facts, weights_facts,
  fun m ρ _ => Cert.Kernel.Hand.run_quiet m ρ, fun m ρ _ => Cert.KernelIdeal.Hand.run_quiet m ρ,
  fun m ρ _ => Cert.KernelIdeal.Hand.run_quiet m ρ, fun m ρ _ => Cert.ReferenceIdeal.Hand.run_quiet m ρ,
  fun m ρ _ => Cert.ReferenceIdeal.Hand.run_quiet m ρ, trivial, same⟩

end Cert.Proof

end
